-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Pre_finite_ReferenceIdeal.lean ====
abbrev S2x128x512 : Shape := ⟨3, ![2, 128, 512]⟩
abbrev S512x4096 : Shape := ⟨2, ![512, 4096]⟩
abbrev S4096x512 : Shape := ⟨2, ![4096, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S2x128x512 .f32) (main_arg1 : FVec F S512x4096 .f32) (main_arg2 : FVec F S512x4096 .f32) (main_arg3 : FVec F S512x4096 .f32) (main_arg4 : FVec F S4096x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S3x128x512 : Shape := ⟨3, ![3, 128, 512]⟩
abbrev S128x512 : Shape := ⟨2, ![128, 512]⟩
abbrev S3x2x4x32x512 : Shape := ⟨5, ![3, 2, 4, 32, 512]⟩
abbrev S24 : Shape := ⟨1, ![24]⟩
abbrev S_ : Shape := ⟨0, ![]⟩
abbrev S1x128x512 : Shape := ⟨3, ![1, 128, 512]⟩
abbrev S1x128x64 : Shape := ⟨3, ![1, 128, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S32x512 : Shape := ⟨2, ![32, 512]⟩
abbrev S1x1x1x32x512 : Shape := ⟨5, ![1, 1, 1, 32, 512]⟩
abbrev S1 : Shape := ⟨1, ![1]⟩
abbrev S1x32x512 : Shape := ⟨3, ![1, 32, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S3x128x512, .bf16⟩
  | .local _ .vmem, ⟨7, _⟩ => ⟨S128x512, .f32⟩
  | .local _ .vmem, ⟨8, _⟩ => ⟨S3x2x4x32x512, .bf16⟩
  | .local _ .vmem, ⟨9, _⟩ => ⟨S3x2x4x32x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_162 : BitVec 32 := 1#32
  let v202 : BitVec 32 := Scalar.muli v3 c1_i32_162
  let v203 : BitVec 32 := Scalar.addi c0_i32_163 v202
  v203.toNat
def k0_dev5 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_181 : BitVec 32 := 1#32
  let v217 : BitVec 32 := Scalar.muli v3 c1_i32_181
  let v218 : BitVec 32 := Scalar.addi c0_i32_182 v217
  v218.toNat
def k0_dev6 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_199 : BitVec 32 := 1#32
  let v232 : BitVec 32 := Scalar.muli v3 c1_i32_199
  let v233 : BitVec 32 := Scalar.addi c0_i32_200 v232
  v233.toNat
def k0_dev7 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_217 : BitVec 32 := 1#32
  let v247 : BitVec 32 := Scalar.muli v3 c1_i32_217
  let v248 : BitVec 32 := Scalar.addi c0_i32_218 v247
  v248.toNat
def k0_dev8 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_386 : BitVec 32 := 1#32
  let v446 : BitVec 32 := Scalar.muli v3 c1_i32_386
  let v447 : BitVec 32 := Scalar.addi c0_i32_387 v446
  v447.toNat
def k0_dev9 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_404 : BitVec 32 := 1#32
  let v461 : BitVec 32 := Scalar.muli v3 c1_i32_404
  let v462 : BitVec 32 := Scalar.addi c0_i32_405 v461
  v462.toNat
def k0_dev10 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_422 : BitVec 32 := 1#32
  let v476 : BitVec 32 := Scalar.muli v3 c1_i32_422
  let v477 : BitVec 32 := Scalar.addi c0_i32_423 v476
  v477.toNat
def k0_dev11 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_440 : BitVec 32 := 1#32
  let v491 : BitVec 32 := Scalar.muli v3 c1_i32_440
  let v492 : BitVec 32 := Scalar.addi c0_i32_441 v491
  v492.toNat
def k0_dev12 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_497 : BitVec 32 := 1#32
  let v528 : BitVec 32 := Scalar.muli v4 c1_i32_497
  let v529 : BitVec 32 := Scalar.addi c0_i32_498 v528
  v529.toNat
def k0_dev13 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_552 : BitVec 32 := 1#32
  let v565 : BitVec 32 := Scalar.muli v4 c1_i32_552
  let v566 : BitVec 32 := Scalar.addi c0_i32_553 v565
  v566.toNat
def k0_dev14 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_608 : BitVec 32 := 1#32
  let v602 : BitVec 32 := Scalar.muli v4 c1_i32_608
  let v603 : BitVec 32 := Scalar.addi c0_i32_609 v602
  v603.toNat
def k0_dev15 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_663 : BitVec 32 := 1#32
  let v639 : BitVec 32 := Scalar.muli v4 c1_i32_663
  let v640 : BitVec 32 := Scalar.addi c0_i32_664 v639
  v640.toNat
def k0_dev16 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_719 : BitVec 32 := 1#32
  let v676 : BitVec 32 := Scalar.muli v4 c1_i32_719
  let v677 : BitVec 32 := Scalar.addi c0_i32_720 v676
  v677.toNat
def k0_dev17 (d0 : Dev nD) : Nat :=
  let c0_i32_776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_775 : BitVec 32 := 1#32
  let v713 : BitVec 32 := Scalar.muli v4 c1_i32_775
  let v714 : BitVec 32 := Scalar.addi c0_i32_776 v713
  v714.toNat
def k0_dev18 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_831 : BitVec 32 := 1#32
  let v750 : BitVec 32 := Scalar.muli v4 c1_i32_831
  let v751 : BitVec 32 := Scalar.addi c0_i32_832 v750
  v751.toNat
def k0_dev19 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_887 : BitVec 32 := 1#32
  let v787 : BitVec 32 := Scalar.muli v4 c1_i32_887
  let v788 : BitVec 32 := Scalar.addi c0_i32_888 v787
  v788.toNat
def k0_dev20 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_943 : BitVec 32 := 1#32
  let v824 : BitVec 32 := Scalar.muli v5 c1_i32_943
  let v825 : BitVec 32 := Scalar.addi c0_i32_944 v824
  v825.toNat
def k0_dev21 (d0 : Dev nD) : Nat :=
  let c0_i32_1000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_999 : BitVec 32 := 1#32
  let v861 : BitVec 32 := Scalar.muli v5 c1_i32_999
  let v862 : BitVec 32 := Scalar.addi c0_i32_1000 v861
  v862.toNat
def k0_dev22 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1055 : BitVec 32 := 1#32
  let v898 : BitVec 32 := Scalar.muli v5 c1_i32_1055
  let v899 : BitVec 32 := Scalar.addi c0_i32_1056 v898
  v899.toNat
def k0_dev23 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1111 : BitVec 32 := 1#32
  let v935 : BitVec 32 := Scalar.muli v5 c1_i32_1111
  let v936 : BitVec 32 := Scalar.addi c0_i32_1112 v935
  v936.toNat
def k0_dev24 (d0 : Dev nD) : Nat :=
  let c0_i32_1168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1167 : BitVec 32 := 1#32
  let v972 : BitVec 32 := Scalar.muli v5 c1_i32_1167
  let v973 : BitVec 32 := Scalar.addi c0_i32_1168 v972
  v973.toNat
def k0_dev25 (d0 : Dev nD) : Nat :=
  let c0_i32_1224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1223 : BitVec 32 := 1#32
  let v1009 : BitVec 32 := Scalar.muli v5 c1_i32_1223
  let v1010 : BitVec 32 := Scalar.addi c0_i32_1224 v1009
  v1010.toNat
def k0_dev26 (d0 : Dev nD) : Nat :=
  let c0_i32_1280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1279 : BitVec 32 := 1#32
  let v1046 : BitVec 32 := Scalar.muli v5 c1_i32_1279
  let v1047 : BitVec 32 := Scalar.addi c0_i32_1280 v1046
  v1047.toNat
def k0_dev27 (d0 : Dev nD) : Nat :=
  let c0_i32_1336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1335 : BitVec 32 := 1#32
  let v1083 : BitVec 32 := Scalar.muli v5 c1_i32_1335
  let v1084 : BitVec 32 := Scalar.addi c0_i32_1336 v1083
  v1084.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S4096x512 : Shape := ⟨2, ![4096, 512]⟩
abbrev S2x128x4096 : Shape := ⟨3, ![2, 128, 4096]⟩
abbrev S2x128x64x64 : Shape := ⟨4, ![2, 128, 64, 64]⟩
abbrev S_ : Shape := ⟨0, ![]⟩
abbrev S2x64x128x1 : Shape := ⟨4, ![2, 64, 128, 1]⟩
abbrev S2x64x128x128 : Shape := ⟨4, ![2, 64, 128, 128]⟩
abbrev S2x64x128 : Shape := ⟨3, ![2, 64, 128]⟩
abbrev S2x128x64x1 : Shape := ⟨4, ![2, 128, 64, 1]⟩
abbrev S2x64x64x128 : Shape := ⟨4, ![2, 64, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S4096x512, .f32⟩
  | .hbm, ⟨5, _⟩ => ⟨S2x128x4096, .f32⟩
  | .hbm, ⟨6, _⟩ => ⟨S2x128x64x64, .f32⟩
  | .hbm, ⟨7, _⟩ => ⟨S2x128x4096, .f32⟩
  | .hbm, ⟨8, _⟩ => ⟨S2x128x64x64, .f32⟩
  | .hbm, ⟨9, _⟩ => ⟨S2x128x4096, .f32⟩
  | .hbm, ⟨10, _⟩ => ⟨S2x128x64x64, .f32⟩
  | .hbm, ⟨11, _⟩ => ⟨S_, .f32⟩
  | .hbm, ⟨12, _⟩ => ⟨S2x128x64x64, .f32⟩
  | .hbm, ⟨13, _⟩ => ⟨S_, .f32⟩
  | .hbm, ⟨14, _⟩ => ⟨S2x64x128x1, .f32⟩
  | .hbm, ⟨15, _⟩ => ⟨S_, .f32⟩
  | .hbm, ⟨16, _⟩ => ⟨S2x64x128x1, .f32⟩
  | .hbm, ⟨17, _⟩ => ⟨S2x64x128x128, .f32⟩
  | .hbm, ⟨18, _⟩ => ⟨S_, .f32⟩
  | .hbm, ⟨19, _⟩ => ⟨S2x64x128x128, .f32⟩
  | .hbm, ⟨20, _⟩ => ⟨S2x64x128x128, .f32⟩
  | .hbm, ⟨21, _⟩ => ⟨S_, .f32⟩
  | .hbm, ⟨22, _⟩ => ⟨S2x64x128, .f32⟩
  | .hbm, ⟨23, _⟩ => ⟨S2x64x128x1, .f32⟩
  | .hbm, ⟨24, _⟩ => ⟨S2x64x128x1, .f32⟩
  | .hbm, ⟨25, _⟩ => ⟨S2x64x128x1, .f32⟩
  | .hbm, ⟨26, _⟩ => ⟨S2x64x128x1, .f32⟩
  | .hbm, ⟨27, _⟩ => ⟨S2x64x128x128, .f32⟩
  | .hbm, ⟨28, _⟩ => ⟨S2x64x128x128, .f32⟩
  | .hbm, ⟨29, _⟩ => ⟨S2x64x128x128, .f32⟩
  | .hbm, ⟨30, _⟩ => ⟨S2x64x128x1, .f32⟩
  | .hbm, ⟨31, _⟩ => ⟨S_, .f32⟩
  | .hbm, ⟨32, _⟩ => ⟨S2x64x128, .f32⟩
  | .hbm, ⟨33, _⟩ => ⟨S2x64x128x1, .f32⟩
  | .hbm, ⟨34, _⟩ => ⟨S2x64x128x1, .f32⟩
  | .hbm, ⟨35, _⟩ => ⟨S2x128x64x1, .f32⟩
  | .hbm, ⟨36, _⟩ => ⟨S2x128x64x64, .f32⟩
  | .hbm, ⟨37, _⟩ => ⟨S2x128x64x64, .f32⟩
  | .hbm, ⟨38, _⟩ => ⟨S2x64x64x128, .f32⟩
  | .hbm, ⟨39, _⟩ => ⟨S2x128x64x64, .f32⟩
  | .hbm, ⟨40, _⟩ => ⟨S2x128x64x64, .f32⟩
  | .hbm, ⟨41, _⟩ => ⟨S2x128x64x1, .f32⟩
  | .hbm, ⟨42, _⟩ => ⟨S2x128x64x64, .f32⟩
  | .hbm, ⟨43, _⟩ => ⟨S2x128x64x64, .f32⟩
  | .hbm, ⟨44, _⟩ => ⟨S2x128x4096, .f32⟩
  | .hbm, ⟨45, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Steps.lean ====
/- The kernel's body written once as a structured program: the barrier signals, one batch of attention, one
   send and one receive, each a definition over its index, and the body as their sequence. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F]

/-- The programs of one core. -/
abbrev P (F : FTy → Type) (α : Type) := Prog (TpuEff nD τ sig (Elt F) Λ₀ .tc) α

/-! ## The buffers -/

/-- The staged input block. -/
abbrev xM := Memref.whole cc0_stg0_0
/-- The staged query weights. -/
abbrev wqM := Memref.whole cc0_stg1_0
/-- The staged output weights. -/
abbrev woM := Memref.whole cc0_stg2_0
/-- The staged key weights. -/
abbrev wkM := Memref.whole cc0_stg3_0
/-- The staged value weights. -/
abbrev wvM := Memref.whole cc0_stg4_0
/-- The staged result block. -/
abbrev outM := Memref.whole cc0_stg5_0
/-- Queries, keys and values of one batch, three slabs. -/
abbrev qkvM := Memref.whole cc0_scratch0
/-- The heads' outputs of one batch, side by side. -/
abbrev attnM := Memref.whole cc0_scratch1
/-- The slots the sends read. -/
abbrev sbufM := Memref.whole cc0_scratch2
/-- The slots the peers' sends land in. -/
abbrev rbufM := Memref.whole cc0_scratch3

/-! ## The offsets of a message -/

/-- The round of message `i`. -/
abbrev rnd (i : Fin 24) : Nat := i.val / 8
/-- The batch of message `i`. -/
abbrev bat (i : Fin 24) : Nat := i.val / 4 % 2
/-- The chunk of 32 rows of message `i`. -/
abbrev chk (i : Fin 24) : Nat := i.val % 4
/-- The rows of the result that message `i` is about, counted over both batches in chunks of 32. -/
abbrev rows (i : Fin 24) : Fin 8 := ⟨i.val % 8, Nat.mod_lt _ (by decide)⟩

theorem slot_inb (i : Fin 24) : ∀ a, (![rnd i, bat i, chk i, 0, 0] : Fin 5 → Nat) a + S1x1x1x32x512.size a ≤ S3x2x4x32x512.size a := by
  revert i; decide
theorem sem_inb (i : Fin 24) : ∀ a, (![i.val] : Fin 1 → Nat) a + S1.size a ≤ S24.size a := by
  revert i; decide
theorem chunk_inb (q : Fin 8) : ∀ a, (![q.val / 4, 32 * (q.val % 4), 0] : Fin 3 → Nat) a + S1x32x512.size a ≤ S2x128x512.size a := by
  revert q; decide
theorem slab_inb (k : Fin 3) : ∀ a, (![k.val, 0, 0] : Fin 3 → Nat) a + S1x128x512.size a ≤ S3x128x512.size a := by
  revert k; decide
theorem batch_inb (b : Fin 2) : ∀ a, (![b.val, 0, 0] : Fin 3 → Nat) a + S1x128x512.size a ≤ S2x128x512.size a := by
  revert b; decide
theorem headIn_inb (k : Fin 3) (h : Fin 8) : ∀ a, (![k.val, 0, 64 * h.val] : Fin 3 → Nat) a + S1x128x64.size a ≤ S3x128x512.size a := by
  revert k h; decide
theorem headOut_inb (h : Fin 8) : ∀ a, (![0, 64 * h.val] : Fin 2 → Nat) a + S128x64.size a ≤ S128x512.size a := by
  revert h; decide

/-- The slot of message `i`, in either buffer of slots. -/
abbrev slotR (i : Fin 24) : Rect S3x2x4x32x512 := Rect.unit (s := S3x2x4x32x512) ![rnd i, bat i, chk i, 0, 0] S1x1x1x32x512.size (slot_inb i)
/-- Chunk `q` of the result, counted over both batches. -/
abbrev chunkR (q : Fin 8) : Rect S2x128x512 := Rect.unit (s := S2x128x512) ![q.val / 4, 32 * (q.val % 4), 0] S1x32x512.size (chunk_inb q)
/-- Slab `k` of the queries, keys and values. -/
abbrev slabR (k : Fin 3) : Rect S3x128x512 := Rect.unit (s := S3x128x512) ![k.val, 0, 0] S1x128x512.size (slab_inb k)
/-- Batch `b` of the input or of the result. -/
abbrev batchR (b : Fin 2) : Rect S2x128x512 := Rect.unit (s := S2x128x512) ![b.val, 0, 0] S1x128x512.size (batch_inb b)
/-- Head `h` of slab `k`. -/
abbrev headInR (k : Fin 3) (h : Fin 8) : Rect S3x128x512 := Rect.unit (s := S3x128x512) ![k.val, 0, 64 * h.val] S1x128x64.size (headIn_inb k h)
/-- Head `h` of the heads' outputs. -/
abbrev headOutR (h : Fin 8) : Rect S128x512 := Rect.unit (s := S128x512) ![0, 64 * h.val] S128x64.size (headOut_inb h)
/-- A whole weight. -/
abbrev weightR : Rect S512x512 := Rect.unit (s := S512x512) ![0, 0] S512x512.size inb_S512x512_S512x512_0_0
/-- All heads' outputs. -/
abbrev attnR : Rect S128x512 := Rect.unit (s := S128x512) ![0, 0] S128x512.size inb_S128x512_S128x512_0_0

theorem slot_packed (i : Fin 24) : (slotR i).PackedRows (EltTy.packing .bf16) := by
  revert i; decide
theorem slot_words (i : Fin 24) : (slotR i).WholeWords (EltTy.packing .bf16) := by
  revert i; decide
theorem slab_packed (k : Fin 3) : (slabR k).PackedRows (EltTy.packing .bf16) := by
  revert k; decide

/-- Slot `i` of the buffer the sends read. -/
abbrev sslot (i : Fin 24) : Memref sig .tc .vmem S32x512 .bf16 :=
  (sbufM.slice (slotR i) (fun _ => rfl)).squeeze S32x512 squeezes_S1x1x1x32x512_S32x512
/-- Slot `i` of the buffer the sends land in. -/
abbrev rslot (i : Fin 24) : Memref sig .tc .vmem S32x512 .bf16 :=
  (rbufM.slice (slotR i) (fun _ => rfl)).squeeze S32x512 squeezes_S1x1x1x32x512_S32x512

theorem sslot_words (i : Fin 24) : (sslot i).view.WordExact :=
  ((Memref.isWhole_whole cc0_scratch2).wordExact_slice rfl _ (slot_words i)).reshape _ _
theorem rslot_words (i : Fin 24) : (rslot i).view.WordExact :=
  ((Memref.isWhole_whole cc0_scratch3).wordExact_slice rfl _ (slot_words i)).reshape _ _

/-- The semaphore send `i` completes on at its own device. -/
abbrev sendSem (i : Fin 24) : DmaSem sig :=
  ((cc0_scratch4.slice (Rect.unit (s := S24) ![i.val] S1.size (sem_inb i))).squeeze S_ squeezes_S1_S_).sem
/-- The semaphore send `i` completes on at the device it lands on. -/
abbrev recvSem (i : Fin 24) : DmaSem sig :=
  ((cc0_scratch5.slice (Rect.unit (s := S24) ![i.val] S1.size (sem_inb i))).squeeze S_ squeezes_S1_S_).sem
/-- The barrier semaphore. -/
abbrev barSem : Sem sig := (SemArray.scalar (sig.barrier 0 rfl) : Sems sig S_).sem

/-! ## The peers -/

/-- The peer of device `d` in round `r`. -/
def peer (r : Nat) (d : Dev nD) : Dev nD :=
  match r with
  | 0 => ⟨k0_dev4 d, k0_dev4_lt d⟩
  | 1 => ⟨k0_dev12 d, k0_dev12_lt d⟩
  | _ => ⟨k0_dev20 d, k0_dev20_lt d⟩

/-! ## The pieces of the body -/

/-- One unit on the barrier semaphore of each peer. -/
def signals (d : Dev nD) : P F PUnit := do
  semSignalWord (peer 0 d) barSem 1#32
  semSignalWord (peer 1 d) barSem 1#32
  semSignalWord (peer 2 d) barSem 1#32

/-- One slab: the product with a weight, stored. -/
def proj (wM : Memref sig .tc .vmem S512x512 .f32) (k : Fin 3) (f : Vec F S512x512 .f32 → FVec F S1x128x512 .bf16) : P F PUnit := do
  let w ← Prog.lift (.load wM weightR.toLoadRect (View.loadsAt_vmem h_S512x512))
  let _ ← Prog.lift (.load qkvM (slabR k).toLoadRect (View.loadsAt_vmem h_S1x128x512))
  Prog.lift (.store qkvM (slabR k) (f w) Finset.univ (View.stores_vmem h_S1x128x512 ((Memref.isWhole_whole cc0_scratch0).storeExact_slice rfl _ (slab_packed k)) (fun _ => rfl)) (.inl rfl))

/-- One head of one batch: its queries, keys and values read, its output stored. -/
def head (h : Fin 8) : P F PUnit := do
  let q ← Prog.lift (.load qkvM (headInR 0 h).toLoadRect (View.loadsAt_vmem h_S1x128x64))
  let k ← Prog.lift (.load qkvM (headInR 1 h).toLoadRect (View.loadsAt_vmem h_S1x128x64))
  let v ← Prog.lift (.load qkvM (headInR 2 h).toLoadRect (View.loadsAt_vmem h_S1x128x64))
  let _ ← Prog.lift (.load attnM (headOutR h).toLoadRect (View.loadsAt_vmem h_S128x64))
  Prog.lift (.store attnM (headOutR h) (k0_pay7 q k v) Finset.univ (View.stores_vmem_bits_univ h_S128x64 rfl) (.inl rfl))

/-- The listed heads, in order. -/
def heads : List (Fin 8) → P F PUnit
  | [] => pure ⟨⟩
  | h :: hs => do head h; heads hs

/-- One batch: the projections, the heads and the partial product with the output weights, which is stored and
    returned. -/
def batch (b : Fin 2) : P F (FVec F S128x512 .f32) := do
  let x ← Prog.lift (.load xM (batchR b).toLoadRect (View.loadsAt_vmem h_S1x128x512))
  proj wqM 0 (fun w => k0_pay3 x w)
  proj wkM 1 (fun w => k0_pay5 (k0_pay4 x w))
  proj wvM 2 (fun w => k0_pay6 (k0_pay2 x) w)
  heads [0, 1, 2, 3, 4, 5, 6, 7]
  let a ← Prog.lift (.load attnM attnR.toLoadRect (View.loadsAt_vmem h_S128x512))
  let w ← Prog.lift (.load woM weightR.toLoadRect (View.loadsAt_vmem h_S512x512))
  let _ ← Prog.lift (.load outM (batchR b).toLoadRect (View.loadsAt_vmem h_S1x128x512))
  Prog.lift (.store outM (batchR b) (k0_pay20 a w) Finset.univ (View.stores_vmem_bits_univ h_S1x128x512 rfl) (.inl rfl))
  return k0_pay19 a w

/-- Message `i` of device `d`: its slot filled with `w` and sent to the peer of its round. -/
def put (d : Dev nD) (i : Fin 24) (w : FVec F S1x1x1x32x512 .bf16) : P F PUnit := do
  let _ ← Prog.lift (.load sbufM (slotR i).toLoadRect (View.loadsAt_vmem h_S1x1x1x32x512))
  Prog.lift (.store sbufM (slotR i) w Finset.univ (View.stores_vmem h_S1x1x1x32x512 ((Memref.isWhole_whole cc0_scratch2).storeExact_slice rfl _ (slot_packed i)) (fun _ => rfl)) (.inl rfl))
  Prog.lift (.enqueueDma (sslot i) (.remote (Dev.tc (peer (rnd i) d)) (rslot i) (.dma (sendSem i))) (.dma (recvSem i)) (sslot_words i) (rslot_words i) ⟨⟨rfl, Or.inl rfl⟩, trivial⟩)

/-- Message `i` waited for at both ends and added to its rows; the sum narrowed, laid out as a slot. -/
def get (i : Fin 24) : P F (FVec F S1x1x1x32x512 .bf16) := do
  Prog.lift (.waitDma2 (sendSem i) (rslot i) (sslot i) (rslot_words i) (sslot_words i))
  Prog.lift (.waitDma2 (recvSem i) (sslot i) (rslot i) (sslot_words i) (rslot_words i))
  let v ← Prog.lift (.load outM (chunkR (rows i)).toLoadRect (View.loadsAt_vmem h_S1x32x512))
  let w ← Prog.lift (.load rbufM (slotR i).toLoadRect (View.loadsAt_vmem h_S1x1x1x32x512))
  let _ ← Prog.lift (.load outM (chunkR (rows i)).toLoadRect (View.loadsAt_vmem h_S1x32x512))
  Prog.lift (.store outM (chunkR (rows i)) (k0_pay58 v w) Finset.univ (View.stores_vmem_bits_univ h_S1x32x512 rfl) (.inl rfl))
  return k0_pay60 (k0_pay59 v w)

/-- Message `i` received, and the next round's message of the same rows sent where there is one. -/
def step (d : Dev nD) (i : Fin 24) : P F PUnit := do
  let w ← get i
  if h : i.val < 16 then put d ⟨i.val + 8, by omega⟩ w else pure ⟨⟩

theorem chunk_slices (j : Fin 4) : S128x512.Slices ![32 * j.val, 0] S32x512 := by
  revert j; decide

/-- Chunk `j` of a batch's partial product, narrowed and laid out as a slot. -/
def chunkPay (j : Fin 4) (p : FVec F S128x512 .f32) : FVec F S1x1x1x32x512 .bf16 :=
  shapeCast S1x1x1x32x512 (truncf .bf16 (extractStridedSlice S32x512 ![32 * j.val, 0] p (chunk_slices j)) bitsLt_bf16_f32) shapeCasts_S32x512_S1x1x1x32x512

/-- The first round's messages of batch `b`, for the listed chunks. -/
def puts (d : Dev nD) (b : Fin 2) (p : FVec F S128x512 .f32) : List (Fin 4) → P F PUnit
  | [] => pure ⟨⟩
  | j :: js => do put d ⟨4 * b.val + j.val, by omega⟩ (chunkPay j p); puts d b p js

/-- The steps of the listed messages, in order. -/
def steps (d : Dev nD) : List (Fin 24) → P F PUnit
  | [] => pure ⟨⟩
  | i :: is => do step d i; steps d is

/-- The body. -/
def body : P F PUnit := do
  let d ← Prog.lift .deviceId
  signals d
  let p ← batch 0
  semWaitWord barSem 3#32
  puts d 0 p [0, 1, 2, 3]
  let p ← batch 1
  puts d 1 p [0, 1, 2, 3]
  steps d [0, 1, 2, 3, 4, 5, 6, 7, 8, 9, 10, 11, 12, 13, 14, 15, 16, 17, 18, 19, 20, 21, 22, 23]

set_option maxRecDepth 100000 in
/-- The kernel's body is the structured one. -/
theorem body_eq : bodyAt0 (F := F) t0_0 = body := by
  delta body
  rfl

end Cert.Proof

end
-- ==== Proof.Values.lean ====
/- What the devices compute, as functions of their blocks: the projections, the heads, the partial products and
   the running sums of the all-reduce; and what the rectangles of the body read and leave. -/
module

public import proofs.«01_k».proof.Proof.Steps
public import Idealize.ShloMosaic.Lib.ViewIndex

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F]

/-! ## The values -/

/-- Head `h` of a slab. -/
def headIn (s : Vec F S1x128x512 .bf16) (h : Fin 8) : Vec F S1x128x64 .bf16 :=
  fun i => s (fun | 0 => i 0 | 1 => i 1 | 2 => (⟨64 * h.val + (i 2).val, by have := (i 2).isLt; have := h.isLt; change (i 2).val < 64 at *; show _ < 512; omega⟩ : Fin 512))

/-- The head a column belongs to. -/
def colHead (i : S128x512.Idx) : Fin 8 := ⟨(i 1).val / 64, by have := (i 1).isLt; change (i 1).val < 512 at this; omega⟩
/-- An index of the heads' outputs, within its head. -/
def colIn (i : S128x512.Idx) : S128x64.Idx := fun | 0 => i 0 | 1 => (⟨(i 1).val % 64, Nat.mod_lt _ (by decide)⟩ : Fin 64)

/-- All heads' outputs, from the three slabs. -/
def headsOut (q k v : Vec F S1x128x512 .bf16) : Vec F S128x512 .f32 :=
  fun i => k0_pay7 (headIn q (colHead i)) (headIn k (colHead i)) (headIn v (colHead i)) (colIn i)

/-- Batch `b` of an input block. -/
def batchOf (x : Vec F S2x128x512 .f32) (b : Fin 2) : Vec F S1x128x512 .f32 :=
  fun i => x (fun | 0 => b | 1 => i 1 | 2 => i 2)

/-- The heads' outputs of one batch. -/
def attnOf (x : Vec F S1x128x512 .f32) (wq wk wv : Vec F S512x512 .f32) : Vec F S128x512 .f32 :=
  headsOut (k0_pay3 x wq) (k0_pay5 (k0_pay4 x wk)) (k0_pay6 (k0_pay2 x) wv)

/-- What each device's blocks hold: the input, the query, output, key and value weights. -/
structure Blocks (F : FTy → Type) [FloatOps F] where
  x : Dev nD → Vec F S2x128x512 .f32
  wq : Dev nD → Vec F S512x512 .f32
  wo : Dev nD → Vec F S512x512 .f32
  wk : Dev nD → Vec F S512x512 .f32
  wv : Dev nD → Vec F S512x512 .f32

variable (B : Blocks F)

/-- The heads' outputs of batch `b` on device `c`. -/
def Blocks.attn (c : Dev nD) (b : Fin 2) : Vec F S128x512 .f32 :=
  attnOf (batchOf (B.x c) b) (B.wq c) (B.wk c) (B.wv c)

/-- Device `c`'s partial product of batch `b`. -/
def Blocks.part (c : Dev nD) (b : Fin 2) : FVec F S128x512 .f32 := k0_pay19 (B.attn c b) (B.wo c)

/-- Chunk `j` of a batch of the result. -/
def chunkOf (p : Vec F S1x128x512 .f32) (j : Fin 4) : Vec F S1x32x512 .f32 :=
  fun i => p (fun | 0 => i 0 | 1 => (⟨32 * j.val + (i 1).val, by have := (i 1).isLt; have := j.isLt; change (i 1).val < 32 at *; show _ < 128; omega⟩ : Fin 128) | 2 => i 2)

/-- The batch of a chunk counted over both. -/
def qb (q : Fin 8) : Fin 2 := ⟨q.val / 4, by omega⟩
/-- The chunk within its batch. -/
def qj (q : Fin 8) : Fin 4 := ⟨q.val % 4, by omega⟩

/-- After `r` rounds: device `c`'s rows of chunk `q`, and the message it sends for them. -/
def Blocks.st : Nat → Dev nD → Fin 8 → Vec F S1x32x512 .f32 × FVec F S1x1x1x32x512 .bf16
  | 0, c, q => (chunkOf (k0_pay20 (B.attn c (qb q)) (B.wo c)) (qj q), chunkPay (qj q) (B.part c (qb q)))
  | r + 1, c, q =>
    let v := (Blocks.st r c q).1
    let w := (Blocks.st r (peer r c) q).2
    (k0_pay58 v w, k0_pay60 (k0_pay59 v w))

/-- The chunk an index of the result lies in. -/
def outChunk (i : S2x128x512.Idx) : Fin 8 :=
  ⟨4 * (i 0).val + (i 1).val / 32, by
    have h0 := (i 0).isLt; have h1 := (i 1).isLt; change (i 0).val < 2 at h0; change (i 1).val < 128 at h1; omega⟩
/-- An index of the result, within its chunk. -/
def outIn (i : S2x128x512.Idx) : S1x32x512.Idx :=
  fun | 0 => (0 : Fin 1) | 1 => (⟨(i 1).val % 32, Nat.mod_lt _ (by decide)⟩ : Fin 32) | 2 => i 2

/-- Device `c`'s result. -/
def Blocks.out (c : Dev nD) : Vec F S2x128x512 .f32 := fun i => (B.st 3 c (outChunk i)).1 (outIn i)

/-! ## What the rectangles read -/

/-- What rectangle `r` of a whole buffer reads off contents `f`. -/
abbrev rdA {b : Ref sig .tc} (r : Rect b.ty.shape) (f : b.ty.Contents (Elt F)) : r.shape.Idx → Elt F b.ty.elt :=
  ((Memref.whole b).access r).read (Elt F) f

omit [FloatOps F] in
theorem read_batch (f : (cc0_stg0_0 : Ref sig .tc).ty.Contents (Elt F)) (b : Fin 2) : rdA (b := cc0_stg0_0) (batchR b) f = batchOf f b := by
  funext i
  show f _ = f _
  congr 1; funext a
  match a with
  | ⟨0, _⟩ => exact Fin.ext (by have := (i 0).isLt; change (i 0).val < 1 at this; show b.val + 1 * (i 0).val = b.val; omega)
  | ⟨1, _⟩ => exact Fin.ext (by show 0 + 1 * (i 1).val = (i 1).val; omega)
  | ⟨2, _⟩ => exact Fin.ext (by show 0 + 1 * (i 2).val = (i 2).val; omega)

omit [FloatOps F] in
theorem read_headIn (f : (cc0_scratch0 : Ref sig .tc).ty.Contents (Elt F)) (k : Fin 3) (h : Fin 8) :
    rdA (b := cc0_scratch0) (headInR k h) f = headIn (rdA (b := cc0_scratch0) (slabR k) f) h := by
  funext i
  show f _ = f _
  congr 1; funext a
  match a with
  | ⟨0, _⟩ => exact Fin.ext (by show k.val + 1 * (i 0).val = k.val + 1 * (i 0).val; rfl)
  | ⟨1, _⟩ => exact Fin.ext (by show 0 + 1 * (i 1).val = 0 + 1 * (i 1).val; rfl)
  | ⟨2, _⟩ => exact Fin.ext (by show 64 * h.val + 1 * (i 2).val = 0 + 1 * (64 * h.val + (i 2).val); omega)

/-- The heads' outputs, once each head's columns read its output. -/
theorem headsOut_of_reads (f : (cc0_scratch1 : Ref sig .tc).ty.Contents (Elt F)) (q k v : Vec F S1x128x512 .bf16)
    (hf : ∀ h : Fin 8, rdA (b := cc0_scratch1) (headOutR h) f = k0_pay7 (headIn q h) (headIn k h) (headIn v h)) : f = headsOut q k v := by
  funext i
  have := congrFun (hf (colHead i)) (colIn i)
  refine Eq.trans ?_ this
  show f _ = f _
  congr 1; funext a
  match a with
  | ⟨0, _⟩ => exact Fin.ext (by show (i 0).val = 0 + 1 * (i 0).val; omega)
  | ⟨1, _⟩ => exact Fin.ext (by show (i 1).val = 64 * ((i 1).val / 64) + 1 * ((i 1).val % 64); omega)

omit [FloatOps F] in
/-- A chunk of the result is a chunk of its batch. -/
theorem read_chunk (f : (cc0_stg5_0 : Ref sig .tc).ty.Contents (Elt F)) (q : Fin 8) :
    rdA (b := cc0_stg5_0) (chunkR q) f = chunkOf (rdA (b := cc0_stg5_0) (batchR (qb q)) f) (qj q) := by
  funext i
  show f _ = f _
  congr 1; funext a
  match a with
  | ⟨0, _⟩ => exact Fin.ext (by show q.val / 4 + 1 * (i 0).val = q.val / 4 + 1 * (i 0).val; rfl)
  | ⟨1, _⟩ => exact Fin.ext (by show 32 * (q.val % 4) + 1 * (i 1).val = 0 + 1 * (32 * (q.val % 4) + (i 1).val); omega)
  | ⟨2, _⟩ => exact Fin.ext (by show 0 + 1 * (i 2).val = 0 + 1 * (i 2).val; rfl)

/-- The result, once each chunk reads its sum. -/
theorem out_of_reads (c : Dev nD) (f : (cc0_stg5_0 : Ref sig .tc).ty.Contents (Elt F))
    (hf : ∀ q : Fin 8, rdA (b := cc0_stg5_0) (chunkR q) f = (B.st 3 c q).1) : f = B.out c := by
  funext i
  have := congrFun (hf (outChunk i)) (outIn i)
  refine Eq.trans ?_ this
  have h1 : (i 1).val < 128 := (i 1).isLt
  show f _ = f _
  congr 1; funext a
  match a with
  | ⟨0, _⟩ => exact Fin.ext (by show (i 0).val = (4 * (i 0).val + (i 1).val / 32) / 4 + 1 * 0; omega)
  | ⟨1, _⟩ => exact Fin.ext (by show (i 1).val = 32 * ((4 * (i 0).val + (i 1).val / 32) % 4) + 1 * ((i 1).val % 32); omega)
  | ⟨2, _⟩ => exact Fin.ext (by show (i 2).val = 0 + 1 * (i 2).val; omega)

/-! ## Writes through one rectangle read through another -/

section Writes
omit [FloatOps F]

/-- A rectangle reads what was written through it. -/
theorem read_write_self {b : Ref sig .tc} (r : Rect b.ty.shape) (f : b.ty.Contents (Elt F)) (w : r.shape.Idx → Elt F b.ty.elt) :
    rdA r (((Memref.whole b).access r).write (Elt F) f w Finset.univ) = w := View.read_write_univ _ _

/-- A rectangle reads the old contents after a write through one apart from it. -/
theorem read_write_apart {b : Ref sig .tc} (r r' : Rect b.ty.shape) (h : Disjoint r.set r'.set) (f : b.ty.Contents (Elt F)) (w : r'.shape.Idx → Elt F b.ty.elt) :
    rdA r (((Memref.whole b).access r').write (Elt F) f w Finset.univ) = rdA r f :=
  View.read_slice_write_slice_of_disjoint (v := (Memref.whole b).view) r r' f w Finset.univ (by rw [View.setOn_univ]; exact View.disjoint_slice h)

end Writes

theorem slab_apart {k k' : Fin 3} (h : k ≠ k') : Disjoint (slabR k).set (slabR k').set := by
  refine Rect.disjoint_of_separated _ _ (0 : Fin 3) ?_
  have : k.val ≠ k'.val := fun e => h (Fin.ext e)
  show ((1:Nat) = 0 ∨ k.val + 1 * (1 - 1) < k'.val) ∨ ((1:Nat) = 0 ∨ k'.val + 1 * (1 - 1) < k.val)
  omega
theorem batch_apart {b b' : Fin 2} (h : b ≠ b') : Disjoint (batchR b).set (batchR b').set := by
  refine Rect.disjoint_of_separated _ _ (0 : Fin 3) ?_
  have : b.val ≠ b'.val := fun e => h (Fin.ext e)
  show ((1:Nat) = 0 ∨ b.val + 1 * (1 - 1) < b'.val) ∨ ((1:Nat) = 0 ∨ b'.val + 1 * (1 - 1) < b.val)
  omega
theorem headOut_apart {h h' : Fin 8} (hne : h ≠ h') : Disjoint (headOutR h).set (headOutR h').set := by
  refine Rect.disjoint_of_separated _ _ (1 : Fin 2) ?_
  have : h.val ≠ h'.val := fun e => hne (Fin.ext e)
  show ((64:Nat) = 0 ∨ 64 * h.val + 1 * (64 - 1) < 64 * h'.val) ∨ ((64:Nat) = 0 ∨ 64 * h'.val + 1 * (64 - 1) < 64 * h.val)
  omega
theorem chunk_apart {q q' : Fin 8} (h : q ≠ q') : Disjoint (chunkR q).set (chunkR q').set := by
  have hne : q.val ≠ q'.val := fun e => h (Fin.ext e)
  by_cases hb : q.val / 4 = q'.val / 4
  · refine Rect.disjoint_of_separated _ _ (1 : Fin 3) ?_
    show ((32:Nat) = 0 ∨ 32 * (q.val % 4) + 1 * (32 - 1) < 32 * (q'.val % 4)) ∨ ((32:Nat) = 0 ∨ 32 * (q'.val % 4) + 1 * (32 - 1) < 32 * (q.val % 4))
    omega
  · refine Rect.disjoint_of_separated _ _ (0 : Fin 3) ?_
    show ((1:Nat) = 0 ∨ q.val / 4 + 1 * (1 - 1) < q'.val / 4) ∨ ((1:Nat) = 0 ∨ q'.val / 4 + 1 * (1 - 1) < q.val / 4)
    omega
theorem slot_apart {i i' : Fin 24} (h : i ≠ i') : Disjoint (slotR i).set (slotR i').set := by
  have hne : i.val ≠ i'.val := fun e => h (Fin.ext e)
  by_cases hr : i.val / 8 = i'.val / 8
  · by_cases hb : i.val / 4 % 2 = i'.val / 4 % 2
    · refine Rect.disjoint_of_separated _ _ (2 : Fin 5) ?_
      show ((1:Nat) = 0 ∨ i.val % 4 + 1 * (1 - 1) < i'.val % 4) ∨ ((1:Nat) = 0 ∨ i'.val % 4 + 1 * (1 - 1) < i.val % 4)
      omega
    · refine Rect.disjoint_of_separated _ _ (1 : Fin 5) ?_
      show ((1:Nat) = 0 ∨ i.val / 4 % 2 + 1 * (1 - 1) < i'.val / 4 % 2) ∨ ((1:Nat) = 0 ∨ i'.val / 4 % 2 + 1 * (1 - 1) < i.val / 4 % 2)
      omega
  · refine Rect.disjoint_of_separated _ _ (0 : Fin 5) ?_
    show ((1:Nat) = 0 ∨ i.val / 8 + 1 * (1 - 1) < i'.val / 8) ∨ ((1:Nat) = 0 ∨ i'.val / 8 + 1 * (1 - 1) < i.val / 8)
    omega

omit [FloatOps F] in
/-- A message landing in slot `i`: the slot then reads what the sender's slot read. -/
theorem read_landed (i : Fin 24) (fs : (cc0_scratch2 : Ref sig .tc).ty.Contents (Elt F)) (fd : (cc0_scratch3 : Ref sig .tc).ty.Contents (Elt F)) :
    rdA (b := cc0_scratch3) (slotR i) ((rslot i).view.write (Elt F) fd ((sslot i).view.read (Elt F) fs) Finset.univ) = rdA (b := cc0_scratch2) (slotR i) fs := by
  have h : (rslot i).view.read (Elt F) ((rslot i).view.write (Elt F) fd ((sslot i).view.read (Elt F) fs) Finset.univ) = (sslot i).view.read (Elt F) fs :=
    View.read_write_univ _ _
  generalize (rslot i).view.write (Elt F) fd ((sslot i).view.read (Elt F) fs) Finset.univ = g at h
  funext y
  obtain ⟨x, rfl⟩ := (Shape.reshapeEquiv (s := S1x1x1x32x512) (s' := S32x512) squeezes_S1x1x1x32x512_S32x512.numel_eq).surjective y
  exact congrFun h x

theorem sslot_set (i : Fin 24) : (sslot i).view.set = (sbufM.access (slotR i)).set := View.set_reshape _ _
theorem rslot_set (i : Fin 24) : (rslot i).view.set = (rbufM.access (slotR i)).set := View.set_reshape _ _

end Cert.Proof

end
-- ==== Proof.Protocol.lean ====
/- The protocol of the all-reduce: one barrier cell and a send and a receive cell per message on every device, what
   each pays and hands over, what a device owes at launch, and the order of the waits. -/
module

public import proofs.«01_k».proof.Proof.Values
public import Idealize.ShloMosaic.Lib.Pipeline.Launch
public import Idealize.ShloMosaic.Lib.Pipeline.Kit
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- The rounds of the protocol, with duties numbered by the peer of each round. -/
abbrev UB : Type := URounds (GSem nD τ sig) (Fin 3)
/-- The pipeline's rounds beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

/-- The peer relation of every round is symmetric. -/
theorem peer_peer (r : Nat) (c : Dev nD) : peer r (peer r c) = c := by
  match r with
  | 0 => revert c; decide
  | 1 => revert c; decide
  | n + 2 => show peer 2 (peer 2 c) = c; revert c; decide

/-- The peer of round `r`, as a permutation. -/
def peerE (r : Nat) : Dev nD ≃ Dev nD := ⟨peer r, peer r, peer_peer r, peer_peer r⟩

/-! ## The cells -/

/-- A device's cells: the barrier's, the sends', the receives'. -/
abbrev CK : Type := Unit ⊕ (Fin 24 ⊕ Fin 24)

/-- The semaphore of a cell. -/
abbrev csem : CK → SemLoc sig
  | .inl _ => .reg barSem
  | .inr (.inl i) => .dma (sendSem i)
  | .inr (.inr i) => .dma (recvSem i)

/-- The kernel's own semaphores. -/
def osem (k : Fin 24 ⊕ Fin 24) : SemLoc sig := csem (.inr k)

/-- The cell of a semaphore, if it is one of the protocol's. -/
def cellIx : SemLoc sig → Option CK
  | .reg s => if s = barSem then some (.inl ()) else none
  | .dma q =>
    if h : 6 ≤ q.val ∧ q.val < 30 then some (.inr (.inl ⟨q.val - 6, by omega⟩))
    else if h : 30 ≤ q.val ∧ q.val < 54 then some (.inr (.inr ⟨q.val - 30, by omega⟩))
    else none

theorem cellIx_send (i : Fin 24) : cellIx (.dma (sendSem i)) = some (.inr (.inl i)) := by revert i; decide
theorem cellIx_recv (i : Fin 24) : cellIx (.dma (recvSem i)) = some (.inr (.inr i)) := by revert i; decide
theorem cellIx_bar : cellIx (.reg barSem) = some (.inl ()) := by decide

theorem cellIx_csem : ∀ k : CK, cellIx (csem k) = some k
  | .inl () => cellIx_bar
  | .inr (.inl i) => cellIx_send i
  | .inr (.inr i) => cellIx_recv i

theorem csem_injective : Function.Injective csem := fun a b h => by
  have := congrArg cellIx h
  rw [cellIx_csem, cellIx_csem] at this
  exact Option.some.inj this

/-- Cell `k` of device `c`. -/
abbrev kcell (ck : Dev nD × CK) : GSem nD τ sig := ((ck.1 : Thread nD τ), csem ck.2)
abbrev barCell (c : Dev nD) : GSem nD τ sig := kcell (c, .inl ())
abbrev sendCell (c : Dev nD) (i : Fin 24) : GSem nD τ sig := kcell (c, .inr (.inl i))
abbrev recvCell (c : Dev nD) (i : Fin 24) : GSem nD τ sig := kcell (c, .inr (.inr i))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of one slot's transfer. -/
abbrev N : ℕ := (rslot 0).view.dmaCredit
theorem N_pos : 0 < N := View.dmaCredit_pos _ (by decide)

/-! ## What is held of the buffers -/

/-- Device `c`'s slot `i` of the buffer the sends read. -/
def sPts (c : Dev nD) (i : Fin 24) (f : Buf (Elt F) ((sslot i).view.loc (c : Thread nD τ))) : sProp 𝕄 :=
  (sslot i).view.loc (c : Thread nD τ) ↦[(sslot i).view.set]{fullShare} f
/-- Device `c`'s slot `i` of the buffer its peers' sends land in. -/
def rPts (c : Dev nD) (i : Fin 24) (f : Buf (Elt F) ((rslot i).view.loc (c : Thread nD τ))) : sProp 𝕄 :=
  (rslot i).view.loc (c : Thread nD τ) ↦[(rslot i).view.set]{fullShare} f
/-- Buffer `b` of device `c`, whole. -/
abbrev wh (c : Dev nD) (b : Ref sig .tc) (f : Buf (Elt F) ((c : Thread nD τ).loc b)) : sProp 𝕄 :=
  (c : Thread nD τ).loc b ↦{fullShare} f

omit [FloatOps F] in
instance sPts_storable (c : Dev nD) (i) (f) : BI.Storable (upEmb : UEmb _ 𝕄) (sPts (F := F) c i f) := by unfold sPts; infer_instance
omit [FloatOps F] in
instance rPts_storable (c : Dev nD) (i) (f) : BI.Storable (upEmb : UEmb _ 𝕄) (rPts (F := F) c i f) := by unfold rPts; infer_instance

/-- Message `k` of round `r`. -/
def msg (r : Fin 3) (k : Fin 8) : Fin 24 := ⟨8 * r.val + k.val, by omega⟩

variable (B : Blocks F)

/-- Device `c`'s slot `i` with the message its peer sent. -/
def landed (c : Dev nD) (i : Fin 24) : sProp 𝕄 :=
  iprop(∃ f, ⌜rdA (b := cc0_scratch3) (slotR i) f = (B.st (rnd i) (peer (rnd i) c) (rows i)).2⌝ ∗ rPts c i f)

/-- What a duty of device `c`'s cell hands over: the barrier's, the peer's slots for that round's messages; a
    send's, the slot it read; a receive's, the slot it filled. -/
def pay (c : Dev nD) : CK → Fin 3 → sProp 𝕄
  | .inl _, r => bigSep Finset.univ fun k : Fin 8 => iprop(∃ f, rPts (peer r.val c) (msg r k) f)
  | .inr (.inl i), _ => iprop(∃ f, sPts c i f)
  | .inr (.inr i), _ => landed B c i

instance pay_storable (c : Dev nD) (k : CK) (r : Fin 3) : BI.Storable (upEmb : UEmb _ 𝕄) (pay B c k r) := by
  rcases k with _ | i | i
  · unfold pay; infer_instance
  · unfold pay; infer_instance
  · unfold pay landed; infer_instance

/-- The payload at a semaphore. -/
def payAt (c : Dev nD) (o : Option CK) (d : Fin 3) : sProp 𝕄 :=
  match o with
  | some k => pay B c k d
  | none => iprop(emp)
instance payAt_storable (c : Dev nD) (o : Option CK) (d : Fin 3) : BI.Storable (upEmb : UEmb _ 𝕄) (payAt B c o d) := by
  rcases o with _ | k <;> (unfold payAt; infer_instance)

/-- The duties of a cell. -/
def dutiesOf : Option CK → Finset (Fin 3)
  | some (.inl _) => Finset.univ
  | some (.inr _) => {0}
  | none => ∅
/-- The units a duty of a cell pays. -/
def amountAt : Option CK → ℕ
  | some (.inl _) => 1
  | _ => N

/-- One round: a barrier cell's three duties of one unit, a transfer cell's one duty of the slot's credit. -/
def rd : Rounds.Schedule (GSem nD τ sig) (Fin 3) 𝕄 where
  duties g r := if r = 0 ∧ g.1.2 = .tc then dutiesOf (cellIx g.2) else ∅
  unitless _ := False
  amount g _ _ := amountAt (cellIx g.2)
  payload g _ d := payAt B g.1.1 (cellIx g.2) d
  amount_pos g _ _ _ := by
    show 0 < amountAt (cellIx g.2)
    rcases cellIx g.2 with _ | _ | _
    · exact N_pos
    · exact Nat.one_pos
    · exact N_pos

instance rd_storable (g : GSem nD τ sig) (r : ℕ) (d : Fin 3) : BI.Storable (upEmb : UEmb _ 𝕄) ((rd B).payload g r d) :=
  payAt_storable B g.1.1 (cellIx g.2) d

section Tables
variable (c : Dev nD)

omit [FloatOps F] in
theorem rd_payload [FloatOps F] (B : Blocks F) (k : CK) (d : Fin 3) : (rd B).payload (kcell (c, k)) 0 d = pay B c k d := by
  show payAt B c (cellIx (csem k)) d = _
  rw [cellIx_csem]; rfl

theorem rd_duties (k : CK) : (rd B).duties (kcell (c, k)) 0 = dutiesOf (some k) := by
  dsimp only [rd]
  rw [if_pos ⟨rfl, rfl⟩, cellIx_csem]

theorem rd_amount (k : CK) (d : Fin 3) : (rd B).amount (kcell (c, k)) 0 d = amountAt (some k) := by
  show amountAt (cellIx (csem k)) = _
  rw [cellIx_csem]

theorem rd_later (g : GSem nD τ sig) : ∀ r, 1 ≤ r → (rd B).duties g r = ∅ :=
  fun r hr => if_neg fun h => by omega

theorem expect_bar : (rd B).expect (barCell c) 0 = 3 := by
  unfold Schedule.expect Schedule.amountOf
  rw [rd_duties, Finset.sum_congr rfl fun d _ => rd_amount B c (.inl ()) d]
  rfl
theorem expect_xfer (k : Fin 24 ⊕ Fin 24) : (rd B).expect (kcell (c, .inr k)) 0 = N := by
  unfold Schedule.expect Schedule.amountOf
  rw [rd_duties, Finset.sum_congr rfl fun d _ => rd_amount B c (.inr k) d]
  exact Finset.sum_singleton _ _

theorem rest_xfer (k : Fin 24 ⊕ Fin 24) :
    bigSep ((rd B).duties (kcell (c, .inr k)) 0 \ ∅) (fun d => (rd B).payload (kcell (c, .inr k)) 0 d) = pay B c (.inr k) 0 := by
  rw [Finset.sdiff_empty, rd_duties]
  exact bigSep_singleton.trans (rd_payload c B (.inr k) 0)
theorem rest_bar :
    bigSep ((rd B).duties (barCell c) 0 \ ∅) (fun d => (rd B).payload (barCell c) 0 d) = bigSep Finset.univ fun d : Fin 3 => pay B c (.inl ()) d := by
  rw [Finset.sdiff_empty, rd_duties]
  exact bigSep_congr fun d _ => rd_payload c B (.inl ()) d

end Tables

/-! ## What a device owes -/

/-- The credit message `i` of device `c` brings its peer. -/
def dueRecv (c : Dev nD) (i : Fin 24) : CellTallies nD τ sig Unit := tallyAt (recvCell (peer (rnd i) c) i) () N
/-- The unit device `c` signals its peer of round `r`. -/
def dueBar (c : Dev nD) (r : Nat) : CellTallies nD τ sig Unit := tallyAt (barCell (peer r c)) () 1

/-- What the messages from `n` on bring. -/
def owed (c : Dev nD) (n : ℕ) : CellTallies nD τ sig Unit := ∑ i ∈ Finset.univ.filter (fun i : Fin 24 => n ≤ i.val), dueRecv c i

/-- What a device owes at launch. -/
def O₀ (c : Dev nD) : CellTallies nD τ sig Unit := owed c 0 + dueBar c 2 + dueBar c 1 + dueBar c 0

theorem owed_peel (c : Dev nD) (i : Fin 24) : owed c i.val = owed c (i.val + 1) + dueRecv c i := by
  unfold owed
  have : (Finset.univ.filter fun j : Fin 24 => i.val ≤ j.val) = insert i (Finset.univ.filter fun j : Fin 24 => i.val + 1 ≤ j.val) := by
    ext j
    simp only [Finset.mem_filter, Finset.mem_univ, true_and, Finset.mem_insert, Fin.ext_iff]
    omega
  rw [this, Finset.sum_insert (by simp), add_comm]

theorem owed_end (c : Dev nD) (n : ℕ) (h : 24 ≤ n) : owed c n = 0 := by
  unfold owed
  rw [Finset.filter_false_of_mem fun i _ => by have := i.isLt; omega, Finset.sum_empty]

theorem owed_pos {c : Dev nD} {n : ℕ} {g : GSem nD τ sig} {u : Unit} (h : 0 < owed c n g u) :
    ∃ i : Fin 24, n ≤ i.val ∧ g = recvCell (peer (rnd i) c) i := by
  obtain ⟨i, hi, hp⟩ := Pipeline.sum_pos_exists h
  refine ⟨i, (Finset.mem_filter.mp hi).2, ?_⟩
  unfold dueRecv at hp
  rw [tallyAt_apply] at hp
  by_contra hn
  rw [if_neg fun h => hn h.1] at hp
  exact Nat.lt_irrefl 0 hp

/-! ## The order of the waits -/

def L (g : GSem nD τ sig) : Finset Unit := if g.1.2 = .tc then {()} else ∅
/-- The level of a cell: barriers below the receives, the receives in the order of their messages, all else at the
    bottom. -/
def lvOf : Option CK → ℕ
  | some (.inl _) => 1
  | some (.inr (.inr i)) => 2 + i.val
  | _ => 0
def lv (g : GSem nD τ sig) (_ : Unit) : ℕ := lvOf (cellIx g.2)

theorem L_of_ne (g : GSem nD τ sig) (h : g.1.2 ≠ .tc) : L g = ∅ := if_neg h
theorem L_tc (c : Dev nD) (sm : SemLoc sig) : () ∈ L ((c : Thread nD τ), sm) := by
  show () ∈ (if _ then _ else _); rw [if_pos rfl]; exact Finset.mem_singleton_self _
theorem lv_kcell (c : Dev nD) (k : CK) (u : Unit) : lv (kcell (c, k)) u = lvOf (some k) := by
  show lvOf (cellIx (csem k)) = _; rw [cellIx_csem]

omit [FloatOps F] in
/-- A wait below message `n`'s level may happen while the messages from `n` on are owed. -/
theorem mayWait_owed (c : Dev nD) (sm : SemLoc sig) (n : ℕ) (h : lvOf (cellIx sm) < 2 + n) :
    (levAts L lv : sProp 𝕄) ⊢ MayWait (c : Thread nD τ) sm () (owed c n) :=
  Pipeline.mayWait_of_levAts (L_tc c sm) fun g u hg => by
    obtain ⟨i, hi, rfl⟩ := owed_pos hg
    refine ⟨L_tc _ _, ?_⟩
    rw [lv_kcell]
    show lvOf (cellIx sm) < 2 + i.val
    omega

theorem O₀_pos {c : Dev nD} {g : GSem nD τ sig} {u : Unit} (h : 0 < O₀ c g u) :
    (∃ i : Fin 24, g = recvCell (peer (rnd i) c) i) ∨ ∃ r, g = barCell (peer r c) := by
  by_contra hn
  rw [not_or] at hn
  have hb (r : Nat) : dueBar c r g u = 0 := by
    unfold dueBar; rw [tallyAt_apply, if_neg fun h => hn.2 ⟨r, h.1⟩]
  have ho : owed c 0 g u = 0 := Nat.eq_zero_of_not_pos fun hp => hn.1 (by obtain ⟨i, -, hi⟩ := owed_pos hp; exact ⟨i, hi⟩)
  unfold O₀ at h
  simp only [Pi.add_apply, Finsupp.add_apply, hb, ho] at h
  exact Nat.lt_irrefl 0 h

omit [FloatOps F] in
/-- The staging's waits may happen at launch. -/
theorem mayWait_stage (c : Dev nD) (sm : SemLoc sig) (h : cellIx sm = none) : (levAts L lv : sProp 𝕄) ⊢ MayWait (c : Thread nD τ) sm () (O₀ c) :=
  Pipeline.mayWait_of_levAts (L_tc c sm) fun g u hg => by
    have e : lv ((c : Thread nD τ), sm) () = 0 := by show lvOf (cellIx sm) = 0; rw [h]; rfl
    rcases O₀_pos hg with ⟨i, rfl⟩ | ⟨r, rfl⟩
    · refine ⟨L_tc _ _, ?_⟩
      rw [e, lv_kcell]; show 0 < 2 + i.val; omega
    · refine ⟨L_tc _ _, ?_⟩
      rw [e, lv_kcell]; exact Nat.one_pos

/-! ## The records and what a device starts with -/

/-- Every cell's invariant, and that every cell is at its one round. -/
def records (K : Dev nD × CK → ℕ) : sProp 𝕄 :=
  iprop((bigSep Finset.univ fun ck : Dev nD × CK => cellInv ER (rd B) (K ck) (kcell ck))
    ∗ bigSep Finset.univ fun ck : Dev nD × CK => reached ER (kcell ck) 0)

instance records_persistent (K : Dev nD × CK → ℕ) : BI.Persistent (records B K) := by unfold records; infer_instance

omit [FloatOps F] in
/-- One member of a family that persists. -/
theorem member {I : Type} [Fintype I] [DecidableEq I] (Φ : I → sProp 𝕄) (i : I) : (bigSep Finset.univ fun j => Φ j) ⊢ Φ i := bigSep_elim (Finset.mem_univ i)

theorem inv_at (K : Dev nD × CK → ℕ) (ck : Dev nD × CK) : records B K ⊢ cellInv ER (rd B) (K ck) (kcell ck) := by
  unfold records
  iintro ⟨#H, -⟩
  iapply (member (fun ck : Dev nD × CK => (cellInv ER (rd B) (K ck) (kcell ck) : sProp 𝕄)) ck); iexact H
theorem reached_at (K : Dev nD × CK → ℕ) (ck : Dev nD × CK) : records B K ⊢ (reached ER (kcell ck) 0 : sProp 𝕄) := by
  unfold records
  iintro ⟨-, #H⟩
  iapply (member (fun ck : Dev nD × CK => (reached ER (kcell ck) 0 : sProp 𝕄)) ck); iexact H

/-- The tokens of the duties device `c` pays: its peers' barrier duties, and at each message its own send's and its
    peer's receive's. -/
def payToks (c : Dev nD) : sProp 𝕄 :=
  iprop((bigSep Finset.univ fun r : Fin 3 => dutyTok ER (barCell (peer r.val c)) 0 r)
    ∗ (bigSep Finset.univ fun i : Fin 24 => dutyTok ER (sendCell c i) 0 0)
    ∗ bigSep Finset.univ fun i : Fin 24 => dutyTok ER (recvCell (peer (rnd i) c) i) 0 0)

/-- Device `c`'s positions at its cells, and its tokens. -/
def linear (c : Dev nD) : sProp 𝕄 :=
  iprop((bigSep Finset.univ fun k : CK => atPos ER (kcell (c, k)) 0 ∅ 0) ∗ payToks c)

/-- The units device `c` may wait for. -/
def creds (c : Dev nD) : sProp 𝕄 :=
  iprop(cred (tallyAt (barCell c) () 3) ∗ bigSep Finset.univ fun i : Fin 24 => cred (tallyAt (recvCell c i) () N))

/-- What device `c`'s body starts from beside its buffers. -/
def start (c : Dev nD) : sProp 𝕄 :=
  iprop((∃ K, records B K ∗ linear c) ∗ creds c ∗ levAts L lv)

end Cert.Proof

end
-- ==== Proof.Messages.lean ====
/- One message: what is held for it before it is sent, while it is on its way and after it arrived, and the runs of
   its send and of its receive. -/
module

public import proofs.«01_k».proof.Proof.Protocol

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The run of a program of device `c`'s core, to `Q`. -/
abbrev run (c : Dev nD) {α : Type} (p : P F α) (Q : α → sProp 𝕄) : sProp 𝕄 :=
  wp frame (wpE (defs₀ (F := F)) 𝒱₀ (c : Thread nD τ) none) Set.univ p Q

variable (B : Blocks F) (K : Dev nD × CK → ℕ) (c : Dev nD)

theorem run_ret {α : Type} (a : α) (Q : α → sProp 𝕄) : Q a ⊢ run c (.ret a) Q := by
  show _ ⊢ wp _ _ _ _ _
  rw [wp_ret]
  iintro H; imodintro; iexact H

theorem run_bind {α β : Type} (p : P F α) (k : α → P F β) (Q : β → sProp 𝕄) : run c (p >>= k) Q = run c p (fun a => run c (k a) Q) :=
  wp_bind _ _ _ p k Q

/-- What a device keeps for message `i` until it has received it: its positions at both cells and the credit of the
    peer's message. -/
def book (i : Fin 24) : sProp 𝕄 :=
  iprop(atPos ER (sendCell c i) 0 ∅ 0 ∗ atPos ER (recvCell c i) 0 ∅ 0 ∗ cred (tallyAt (recvCell c i) () N))

/-- Message `i` before it is sent. -/
def ready (i : Fin 24) : sProp 𝕄 :=
  iprop(book c i ∗ dutyTok ER (sendCell c i) 0 0 ∗ dutyTok ER (recvCell (peer (rnd i) c) i) 0 0
    ∗ (∃ f, sPts c i f) ∗ (∃ f, rPts (peer (rnd i) c) i f))

/-- Message `i` on its way. -/
def flying (i : Fin 24) : sProp 𝕄 := iprop(book c i ∗ cred (tallyAt (sendCell c i) () N))

/-- Message `i` received, its cells closed. -/
def done (i : Fin 24) : sProp 𝕄 :=
  iprop(semVal (sendCell c i) 0 ∗ semVal (recvCell c i) 0 ∗ (∃ f, sPts c i f) ∗ (∃ f, rPts c i f))

/-- The transfer of message `i`, its slot filled. -/
theorem run_send (i : Fin 24) (n : Dev nD) (hn : n = peer (rnd i) c) {hsc : (rslot i : Memref sig (Dev.tc n : Thread nD τ).2.kind .vmem S32x512 .bf16).view.ref.isScScratch = false}
    {hsrc : (sslot i).view.WordExact} {hdst : (rslot i).view.WordExact}
    {hsem : DmaTarget.Typed .vmem (.dma (recvSem i)) (.remote (Dev.tc n : Thread nD τ) (rslot i) (.dma (sendSem i)) hsc)}
    {α : Type} {Q : α → sProp 𝕄} {k : PUnit → P F α} (fs) (fd) (W : Waits sig Unit) (O : CellTallies nD τ sig Unit)
    (hf : rdA (b := cc0_scratch2) (slotR i) fs = (B.st (rnd i) c (rows i)).2) :
    iprop(records B K ∗ sPts c i fs ∗ rPts (peer (rnd i) c) i fd ∗ owes (c : Thread nD τ) (O + dueRecv c i) W
        ∗ dutyTok ER (sendCell c i) 0 0 ∗ dutyTok ER (recvCell (peer (rnd i) c) i) 0 0)
      ⊢ iprop(((cred (tallyAt (sendCell c i) () N) ∗ owes (c : Thread nD τ) O W) -∗ run c (k ⟨⟩) Q)
          -∗ run c (.op (.enqueueDma (sslot i) (.remote (Dev.tc n : Thread nD τ) (rslot i) (.dma (sendSem i)) hsc) (.dma (recvSem i)) hsrc hdst hsem) k) Q) := by
  subst hn
  iintro ⟨#HR, Hs, Hd, HO, Ht1, Ht2⟩
  ihave #HI1 := (inv_at B K (c, .inr (.inl i))) $$ HR
  ihave #HI2 := (inv_at B K (peer (rnd i) c, .inr (.inr i))) $$ HR
  ihave #HR1 := (reached_at B K (c, .inr (.inl i))) $$ HR
  ihave #HR2 := (reached_at B K (peer (rnd i) c, .inr (.inr i))) $$ HR
  iapply (Rounds.wp_send_pointsTo 𝒱₀ ER (rd B) (c : Thread nD τ) none (κ₁ := K (c, .inr (.inl i))) (κ₂ := K (peer (rnd i) c, .inr (.inr i)))
    (r₁ := 0) (r₂ := 0) (d₁ := (0 : Fin 3)) (d₂ := (0 : Fin 3)) (fd := fd)
    (by rw [rd_duties]; exact Finset.mem_singleton_self _)
    (by rw [rd_duties]; exact Finset.mem_singleton_self _)
    () () N rfl (rd_amount B c (.inr (.inl i)) 0) (rd_amount B (peer (rnd i) c) (.inr (.inr i)) 0) O rfl (W := W)
    (by
      rw [rd_payload]
      show _ ⊢ iprop(∃ f, sPts c i f)
      unfold sPts
      iintro H; iexists fs; iexact H)
    (by
      rw [rd_payload]
      show _ ⊢ landed B (peer (rnd i) c) i
      unfold landed rPts
      rw [peer_peer]
      iintro H; iexists _
      isplitr
      · ipureintro; exact (read_landed i fs fd).trans hf
      · iexact H)) $$ [Hs Hd HO Ht1 Ht2]
  isplitr; · iexact HI1
  isplitr; · iexact HI2
  isplitl [Hs]; · unfold sPts; iexact Hs
  isplitl [Hd]; · unfold rPts; iexact Hd
  isplitl [HO]; · iexact HO
  isplitl [Ht1]; · iexact Ht1
  isplitr; · iexact HR1
  isplitl [Ht2]; · iexact Ht2
  iexact HR2

/-- Message `i` is sent. -/
theorem run_put (i : Fin 24) (w : FVec F S1x1x1x32x512 .bf16) (hw : w = (B.st (rnd i) c (rows i)).2) (O : CellTallies nD τ sig Unit) (W : Waits sig Unit) (Q : PUnit → sProp 𝕄) :
    iprop(records B K ∗ ready c i ∗ owes (c : Thread nD τ) (O + dueRecv c i) W ∗ ((flying c i ∗ owes (c : Thread nD τ) O W) -∗ Q ⟨⟩))
      ⊢ run c (put c i w) Q := by
  unfold put
  simp only [Prog.lift, Prog.bind_op, Prog.bind_ret, Prog.pure_eq_ret]
  unfold ready
  iintro ⟨#HR, ⟨Hb, Ht1, Ht2, ⟨%f, Hs⟩, ⟨%fd, Hd⟩⟩, HO, HK⟩
  unfold sPts
  iapply (wp_load_rect 𝒱₀ (c : Thread nD τ) none Set.univ (m := sbufM) (r := slotR i) (by rw [sslot_set])) $$ Hs; iintro Hs
  iapply (wp_store 𝒱₀ (c : Thread nD τ) none Set.univ (m := sbufM) (r := slotR i) (Mk := Finset.univ) (by rw [sslot_set, View.setOn_univ])) $$ Hs; iintro Hs
  iapply (run_send B K c i _ rfl _ fd W O (by rw [hw.symm]; exact read_write_self (b := cc0_scratch2) (slotR i) f w)) $$ [Hs Hd HO Ht1 Ht2]
  · isplitr; · iexact HR
    isplitl [Hs]; · unfold sPts; iexact Hs
    isplitl [Hd]; · iexact Hd
    isplitl [HO]; · iexact HO
    isplitl [Ht1]; · iexact Ht1
    iexact Ht2
  iintro ⟨Hc, HO⟩
  iapply (run_ret c)
  iapply HK
  isplitl [Hb Hc]
  · unfold flying; isplitl [Hb] <;> iassumption
  iexact HO

/-- The result's rows after the first `a` receives: each chunk at the sum of as many rounds as it received. -/
def sums (a : ℕ) (f : (cc0_stg5_0 : Ref sig .tc).ty.Contents (Elt F)) : Prop :=
  ∀ q : Fin 8, rdA (b := cc0_stg5_0) (chunkR q) f = (B.st ((a + 7 - q.val) / 8) c q).1

/-- A receive takes the rows from one receive to the next. -/
theorem sums_step (i : Fin 24) (f : (cc0_stg5_0 : Ref sig .tc).ty.Contents (Elt F)) (w : FVec F S1x1x1x32x512 .bf16)
    (hf : sums B c i.val f) (hw : w = (B.st (rnd i) (peer (rnd i) c) (rows i)).2) :
    sums B c (i.val + 1) ((outM.access (chunkR (rows i))).write (Elt F) f (k0_pay58 (rdA (b := cc0_stg5_0) (chunkR (rows i)) f) w) Finset.univ) := by
  intro q
  by_cases h : q = rows i
  · subst h
    rw [show (i.val + 1 + 7 - (rows i).val) / 8 = rnd i + 1 from by show (i.val + 1 + 7 - i.val % 8) / 8 = i.val / 8 + 1; omega]
    refine (read_write_self (b := cc0_stg5_0) (chunkR (rows i)) f _).trans ?_
    rw [hf, show (i.val + 7 - (rows i).val) / 8 = rnd i from by show (i.val + 7 - i.val % 8) / 8 = i.val / 8; omega, hw]
    rfl
  · have hq : q.val ≠ i.val % 8 := fun e => h (Fin.ext e)
    have hl := q.isLt
    refine (read_write_apart (b := cc0_stg5_0) (chunkR q) (chunkR (rows i)) (chunk_apart h) f _).trans ?_
    rw [hf q, show (i.val + 1 + 7 - q.val) / 8 = (i.val + 7 - q.val) / 8 from by omega]

/-- The message a receive hands to the next round. -/
theorem next_msg (i : Fin 24) (f : (cc0_stg5_0 : Ref sig .tc).ty.Contents (Elt F)) (w : FVec F S1x1x1x32x512 .bf16)
    (hf : sums B c i.val f) (hw : w = (B.st (rnd i) (peer (rnd i) c) (rows i)).2) :
    k0_pay60 (k0_pay59 (rdA (b := cc0_stg5_0) (chunkR (rows i)) f) w) = (B.st (rnd i + 1) c (rows i)).2 := by
  rw [hf, show (i.val + 7 - (rows i).val) / 8 = rnd i from by show (i.val + 7 - i.val % 8) / 8 = i.val / 8; omega, hw]
  rfl

/-- Message `i` is received. -/
theorem run_get (i : Fin 24) (n : ℕ) (hn : i.val < n) (f : (cc0_stg5_0 : Ref sig .tc).ty.Contents (Elt F)) (hf : sums B c i.val f)
    (W : Waits sig Unit) (Q : FVec F S1x1x1x32x512 .bf16 → sProp 𝕄) :
    iprop(records B K ∗ levAts L lv ∗ flying c i ∗ owes (c : Thread nD τ) (owed c n) W ∗ wh c cc0_stg5_0 f
        ∗ (∀ W' f', (⌜sums B c (i.val + 1) f'⌝ ∗ done c i ∗ owes (c : Thread nD τ) (owed c n) W' ∗ wh c cc0_stg5_0 f') -∗ Q (B.st (rnd i + 1) c (rows i)).2))
      ⊢ run c (get i) Q := by
  unfold get
  simp only [Prog.lift, Prog.bind_op, Prog.bind_ret, Prog.pure_eq_ret]
  unfold flying book
  iintro ⟨#HR, #Hlev, ⟨⟨Ha1, Ha2, Hc2⟩, Hc1⟩, HO, Hout, HK⟩
  ihave #HI1 := (inv_at B K (c, .inr (.inl i))) $$ HR
  ihave #HI2 := (inv_at B K (c, .inr (.inr i))) $$ HR
  iapply (Rounds.wp_wait_rest_token 𝒱₀ ER (rd B) (c : Thread nD τ) none (κ := K (c, .inr (.inl i)))
      (wpE_waitDma2_eq 𝒱₀ (c : Thread nD τ) none Set.univ) (Set.mem_univ _) () (O := owed c n) (W := W) (R := 0) (m := 0) (T := ∅)
      (by rw [Nat.zero_add]; exact (expect_xfer B c (.inl i)).symm)) $$ [Hc1 HO Ha1]
  · isplitr; · iexact HI1
    isplitl [Hc1]; · iexact Hc1
    isplitl [HO]; · iexact HO
    isplitr; · iapply (mayWait_owed c _ n (by rw [cellIx_send]; show 0 < 2 + n; omega)); iexact Hlev
    iexact Ha1
  iintro ⟨HO, Ha1, -, Hpay⟩
  ihave Hs := (Entails.of_eq (rest_xfer B c (.inl i))) $$ Hpay
  iapply (Rounds.wp_wait_rest_token 𝒱₀ ER (rd B) (c : Thread nD τ) none (κ := K (c, .inr (.inr i)))
      (wpE_waitDma2_eq 𝒱₀ (c : Thread nD τ) none Set.univ) (Set.mem_univ _) () (O := owed c n) (R := 0) (m := 0) (T := ∅)
      (by rw [Nat.zero_add]; exact (expect_xfer B c (.inr i)).symm)) $$ [Hc2 HO Ha2]
  · isplitr; · iexact HI2
    isplitl [Hc2]; · iexact Hc2
    isplitl [HO]; · iexact HO
    isplitr; · iapply (mayWait_owed c _ n (by rw [cellIx_recv]; show 2 + i.val < 2 + n; omega)); iexact Hlev
    iexact Ha2
  iintro ⟨HO, Ha2, -, Hpay⟩
  ihave Hr := (Entails.of_eq (rest_xfer B c (.inr i))) $$ Hpay
  imod (Rounds.cell_close ER (rd B) (Set.mem_univ (K (c, .inr (.inl i)))) (fun h => h) (R := 0 + 1) (rd_later B (sendCell c i))) $$ [Ha1] with Hz1
  · isplitr; · iexact HI1
    iexact Ha1
  imod (Rounds.cell_close ER (rd B) (Set.mem_univ (K (c, .inr (.inr i)))) (fun h => h) (R := 0 + 1) (rd_later B (recvCell c i))) $$ [Ha2] with Hz2
  · isplitr; · iexact HI2
    iexact Ha2
  unfold pay landed rPts
  icases Hr with ⟨%g, %hg, Hr⟩
  iapply (wp_load_rect 𝒱₀ (c : Thread nD τ) none Set.univ (m := outM) (r := chunkR (rows i)) (Finset.subset_univ _)) $$ Hout; iintro Hout
  iapply (wp_load_rect 𝒱₀ (c : Thread nD τ) none Set.univ (m := rbufM) (r := slotR i) (by rw [rslot_set])) $$ Hr; iintro Hr
  iapply (wp_load_rect 𝒱₀ (c : Thread nD τ) none Set.univ (m := outM) (r := chunkR (rows i)) (Finset.subset_univ _)) $$ Hout; iintro Hout
  iapply (wp_store 𝒱₀ (c : Thread nD τ) none Set.univ (m := outM) (r := chunkR (rows i)) (Mk := Finset.univ) (Finset.subset_univ _)) $$ Hout; iintro Hout
  iapply (run_ret c)
  rw [next_msg B c i f _ hf hg]
  iapply HK
  isplitr; · ipureintro; exact sums_step B c i f _ hf hg
  isplitl [Hz1 Hz2 Hs Hr]
  · unfold done rPts
    isplitl [Hz1]; · iexact Hz1
    isplitl [Hz2]; · iexact Hz2
    isplitl [Hs]; · iexact Hs
    iexists g; iexact Hr
  isplitl [HO]; · iexact HO
  iexact Hout

end Cert.Proof

end
-- ==== Proof.Compute.lean ====
/- The run of one batch: the projections, the heads and the partial product. -/
module

public import proofs.«01_k».proof.Proof.Messages

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (c : Dev nD)

/-- The contents of the queries, keys and values. -/
abbrev QKV (F : FTy → Type) := (cc0_scratch0 : Ref sig .tc).ty.Contents (Elt F)
/-- The contents of the heads' outputs. -/
abbrev Attn (F : FTy → Type) := (cc0_scratch1 : Ref sig .tc).ty.Contents (Elt F)
/-- The contents of the result. -/
abbrev Out (F : FTy → Type) := (cc0_stg5_0 : Ref sig .tc).ty.Contents (Elt F)

/-- One slab is computed and stored; the others stay. -/
theorem run_proj (wM : Memref sig .tc .vmem S512x512 .f32) (k : Fin 3) (p : Vec F S512x512 .f32 → FVec F S1x128x512 .bf16)
    (g : Buf (Elt F) (wM.view.loc (c : Thread nD τ))) (w : Vec F S512x512 .f32) (hg : (wM.access weightR).read (Elt F) g = w) (s : QKV F) (Q : PUnit → sProp 𝕄) :
    iprop((wM.view.loc (c : Thread nD τ) ↦{fullShare} g) ∗ wh c cc0_scratch0 s
        ∗ (∀ s' : QKV F, (⌜rdA (b := cc0_scratch0) (slabR k) s' = p w ∧ ∀ k', k' ≠ k → rdA (b := cc0_scratch0) (slabR k') s' = rdA (b := cc0_scratch0) (slabR k') s⌝
            ∗ (wM.view.loc (c : Thread nD τ) ↦{fullShare} g) ∗ wh c cc0_scratch0 s') -∗ Q ⟨⟩))
      ⊢ run c (proj wM k p) Q := by
  unfold proj
  simp only [Prog.lift, Prog.bind_op, Prog.bind_ret, Prog.pure_eq_ret]
  iintro ⟨Hw, Hs, HK⟩
  iapply (wp_load_rect 𝒱₀ (c : Thread nD τ) none Set.univ (m := wM) (r := weightR) (Finset.subset_univ _)) $$ Hw; iintro Hw
  iapply (wp_load_rect 𝒱₀ (c : Thread nD τ) none Set.univ (m := qkvM) (r := slabR k) (Finset.subset_univ _)) $$ Hs; iintro Hs
  iapply (wp_store 𝒱₀ (c : Thread nD τ) none Set.univ (m := qkvM) (r := slabR k) (Mk := Finset.univ) (Finset.subset_univ _)) $$ Hs; iintro Hs
  iapply (run_ret c)
  iapply HK
  isplitr
  · ipureintro
    rw [← hg]
    exact ⟨read_write_self (b := cc0_scratch0) (slabR k) s (p ((wM.access weightR).read (Elt F) g)), fun k' hk => read_write_apart (b := cc0_scratch0) (slabR k') (slabR k) (slab_apart hk) s _⟩
  isplitl [Hw]; · iexact Hw
  iexact Hs

variable (q k v : Vec F S1x128x512 .bf16)

/-- The three slabs. -/
def slabs (s : QKV F) : Prop :=
  rdA (b := cc0_scratch0) (slabR 0) s = q ∧ rdA (b := cc0_scratch0) (slabR 1) s = k ∧ rdA (b := cc0_scratch0) (slabR 2) s = v

/-- The outputs of the heads below `n`. -/
def outputs (n : ℕ) (a : Attn F) : Prop :=
  ∀ h : Fin 8, h.val < n → rdA (b := cc0_scratch1) (headOutR h) a = k0_pay7 (headIn q h) (headIn k h) (headIn v h)

/-- A head's output stored adds it to the outputs. -/
theorem outputs_step (h : Fin 8) (s : QKV F) (hs : slabs q k v s) (a : Attn F) (ha : outputs q k v h.val a) :
    outputs q k v (h.val + 1) ((attnM.access (headOutR h)).write (Elt F) a
      (k0_pay7 (rdA (b := cc0_scratch0) (headInR 0 h) s) (rdA (b := cc0_scratch0) (headInR 1 h) s) (rdA (b := cc0_scratch0) (headInR 2 h) s)) Finset.univ) := by
  intro h' hlt
  by_cases e : h' = h
  · subst e
    refine (read_write_self (b := cc0_scratch1) (headOutR h') a _).trans ?_
    rw [read_headIn, read_headIn, read_headIn, hs.1, hs.2.1, hs.2.2]
  · refine (read_write_apart (b := cc0_scratch1) (headOutR h') (headOutR h) (headOut_apart e) a _).trans (ha h' ?_)
    have : h'.val ≠ h.val := fun x => e (Fin.ext x)
    omega

/-- One head is computed and stored. -/
theorem run_head (h : Fin 8) (s : QKV F) (hs : slabs q k v s) (a : Attn F) (ha : outputs q k v h.val a) (Q : PUnit → sProp 𝕄) :
    iprop(wh c cc0_scratch0 s ∗ wh c cc0_scratch1 a
        ∗ (∀ a' : Attn F, (⌜outputs q k v (h.val + 1) a'⌝ ∗ wh c cc0_scratch0 s ∗ wh c cc0_scratch1 a') -∗ Q ⟨⟩))
      ⊢ run c (head h) Q := by
  unfold head
  simp only [Prog.lift, Prog.bind_op, Prog.bind_ret, Prog.pure_eq_ret]
  iintro ⟨Hs, Ha, HK⟩
  iapply (wp_load_rect 𝒱₀ (c : Thread nD τ) none Set.univ (m := qkvM) (r := headInR 0 h) (Finset.subset_univ _)) $$ Hs; iintro Hs
  iapply (wp_load_rect 𝒱₀ (c : Thread nD τ) none Set.univ (m := qkvM) (r := headInR 1 h) (Finset.subset_univ _)) $$ Hs; iintro Hs
  iapply (wp_load_rect 𝒱₀ (c : Thread nD τ) none Set.univ (m := qkvM) (r := headInR 2 h) (Finset.subset_univ _)) $$ Hs; iintro Hs
  iapply (wp_load_rect 𝒱₀ (c : Thread nD τ) none Set.univ (m := attnM) (r := headOutR h) (Finset.subset_univ _)) $$ Ha; iintro Ha
  iapply (wp_store 𝒱₀ (c : Thread nD τ) none Set.univ (m := attnM) (r := headOutR h) (Mk := Finset.univ) (Finset.subset_univ _)) $$ Ha; iintro Ha
  iapply (run_ret c)
  iapply HK
  isplitr
  · ipureintro; exact outputs_step q k v h s hs a ha
  isplitl [Hs]; · iexact Hs
  iexact Ha

/-- The heads from `n` on are computed and stored. -/
theorem run_heads (hs : List (Fin 8)) : ∀ (n : ℕ), hs = (List.finRange 8).drop n → ∀ (s : QKV F), slabs q k v s → ∀ (a : Attn F), outputs q k v n a → ∀ (Q : PUnit → sProp 𝕄),
    iprop(wh c cc0_scratch0 s ∗ wh c cc0_scratch1 a
        ∗ (∀ a' : Attn F, (⌜outputs q k v 8 a'⌝ ∗ wh c cc0_scratch0 s ∗ wh c cc0_scratch1 a') -∗ Q ⟨⟩))
      ⊢ run c (heads hs) Q := by
  induction hs with
  | nil =>
    intro n hn s hs a ha Q
    have : 8 ≤ n := by simpa using hn
    iintro ⟨Hs, Ha, HK⟩
    iapply (run_ret c)
    iapply HK
    isplitr; · ipureintro; exact fun h _ => ha h (by omega)
    isplitl [Hs]; · iexact Hs
    iexact Ha
  | cons h hs ih =>
    intro n hn s hsl a ha Q
    have hlt : n < 8 := by
      by_contra hge
      rw [List.drop_eq_nil_of_le (by simp; omega)] at hn
      cases hn
    rw [List.drop_eq_getElem_cons (by simpa using hlt)] at hn
    obtain ⟨rfl, rfl⟩ := List.cons.inj hn
    show _ ⊢ run c (head _ >>= fun _ => heads _) Q
    rw [run_bind]
    iintro ⟨Hs, Ha, HK⟩
    iapply (run_head c q k v _ s hsl a (by simpa using ha)) $$ [Hs Ha HK]
    isplitl [Hs]; · iexact Hs
    isplitl [Ha]; · iexact Ha
    iintro %a' ⟨%ha', Hs, Ha⟩
    iapply (ih (n + 1) rfl s hsl a' (by simpa using ha') Q)
    isplitl [Hs]; · iexact Hs
    isplitl [Ha]; · iexact Ha
    iexact HK

variable (B : Blocks F)

/-- The buffers a batch reads. -/
def inputs : sProp 𝕄 :=
  iprop(wh c cc0_stg0_0 (B.x c) ∗ wh c cc0_stg1_0 (B.wq c) ∗ wh c cc0_stg2_0 (B.wo c) ∗ wh c cc0_stg3_0 (B.wk c) ∗ wh c cc0_stg4_0 (B.wv c))

omit [FloatOps F] in
theorem zero2 : (![0, 0] : Fin 2 → Nat) = fun _ => 0 := funext fun a => by fin_cases a <;> rfl

/-- One batch is computed and its partial product stored. -/
theorem run_batch (b : Fin 2) (f : Out F) (Q : FVec F S128x512 .f32 → sProp 𝕄) :
    iprop(inputs c B ∗ (∃ s, wh c cc0_scratch0 s) ∗ (∃ a, wh c cc0_scratch1 a) ∗ wh c cc0_stg5_0 f
        ∗ ((inputs c B ∗ (∃ s, wh c cc0_scratch0 s) ∗ (∃ a, wh c cc0_scratch1 a)
            ∗ wh c cc0_stg5_0 ((outM.access (batchR b)).write (Elt F) f (k0_pay20 (B.attn c b) (B.wo c)) Finset.univ)) -∗ Q (B.part c b)))
      ⊢ run c (batch b) Q := by
  unfold batch inputs
  simp only [Prog.lift, Prog.bind_op, Prog.bind_ret, Prog.pure_eq_ret]
  iintro ⟨⟨Hx, Hq, Ho, Hk, Hv⟩, ⟨%s, Hs⟩, ⟨%a, Ha⟩, Hout, HK⟩
  iapply (wp_load_rect 𝒱₀ (c : Thread nD τ) none Set.univ (m := xM) (r := batchR b) (Finset.subset_univ _)) $$ Hx; iintro Hx
  rw [show (xM.access (batchR b)).read (Elt F) (B.x c) = batchOf (B.x c) b from read_batch (B.x c) b]
  rw [wp_bind]
  iapply (run_proj c wqM 0 _ (B.wq c) (B.wq c) (Memref.readAt_unit_zero (Elt F) cc0_stg1_0 zero2 _ _) s) $$ [Hx Hq Ho Hk Hv Hs Ha Hout HK]
  isplitl [Hq]; · iexact Hq
  isplitl [Hs]; · iexact Hs
  iintro %s1 ⟨%h1, Hq, Hs⟩
  rw [wp_bind]
  iapply (run_proj c wkM 1 _ (B.wk c) (B.wk c) (Memref.readAt_unit_zero (Elt F) cc0_stg3_0 zero2 _ _) s1) $$ [Hx Hq Ho Hk Hv Hs Ha Hout HK]
  isplitl [Hk]; · iexact Hk
  isplitl [Hs]; · iexact Hs
  iintro %s2 ⟨%h2, Hk, Hs⟩
  rw [wp_bind]
  iapply (run_proj c wvM 2 _ (B.wv c) (B.wv c) (Memref.readAt_unit_zero (Elt F) cc0_stg4_0 zero2 _ _) s2) $$ [Hx Hq Ho Hk Hv Hs Ha Hout HK]
  isplitl [Hv]; · iexact Hv
  isplitl [Hs]; · iexact Hs
  iintro %s3 ⟨%h3, Hv, Hs⟩
  rw [wp_bind]
  iapply (run_heads c (k0_pay3 (batchOf (B.x c) b) (B.wq c)) (k0_pay5 (k0_pay4 (batchOf (B.x c) b) (B.wk c))) (k0_pay6 (k0_pay2 (batchOf (B.x c) b)) (B.wv c)) _ 0 rfl s3
    ⟨(h3.2 0 (by decide)).trans ((h2.2 0 (by decide)).trans h1.1), (h3.2 1 (by decide)).trans h2.1, h3.1⟩ a (fun h hh => absurd hh (Nat.not_lt_zero _))) $$ [Hx Hq Ho Hk Hv Hs Ha Hout HK]
  isplitl [Hs]; · iexact Hs
  isplitl [Ha]; · iexact Ha
  iintro %a' ⟨%ha, Hs, Ha⟩
  have e : a' = B.attn c b := headsOut_of_reads a' _ _ _ fun h => ha h h.isLt
  subst e
  iapply (wp_load_rect 𝒱₀ (c : Thread nD τ) none Set.univ (m := attnM) (r := attnR) (Finset.subset_univ _)) $$ Ha; iintro Ha
  iapply (wp_load_rect 𝒱₀ (c : Thread nD τ) none Set.univ (m := woM) (r := weightR) (Finset.subset_univ _)) $$ Ho; iintro Ho
  rw [show (attnM.access attnR).read (Elt F) (B.attn c b) = B.attn c b from Memref.readAt_unit_zero (Elt F) cc0_scratch1 zero2 _ _,
    show (woM.access weightR).read (Elt F) (B.wo c) = B.wo c from Memref.readAt_unit_zero (Elt F) cc0_stg2_0 zero2 _ _]
  iapply (wp_load_rect 𝒱₀ (c : Thread nD τ) none Set.univ (m := outM) (r := batchR b) (Finset.subset_univ _)) $$ Hout; iintro Hout
  iapply (wp_store 𝒱₀ (c : Thread nD τ) none Set.univ (m := outM) (r := batchR b) (Mk := Finset.univ) (Finset.subset_univ _)) $$ Hout; iintro Hout
  rw [show k0_pay19 (B.attn c b) (B.wo c) = B.part c b from rfl]
  iapply (run_ret c)
  iapply HK
  isplitl [Hx Hq Ho Hk Hv]
  · isplitl [Hx]; · iexact Hx
    isplitl [Hq]; · iexact Hq
    isplitl [Ho]; · iexact Ho
    isplitl [Hk]; · iexact Hk
    iexact Hv
  isplitl [Hs]; · iexists s3; iexact Hs
  isplitl [Ha]; · iexists _; iexact Ha
  iexact Hout

/-- Both batches stored: every chunk holds the device's own partial product. -/
theorem sums_start (f : Out F) :
    sums B c 0 ((outM.access (batchR 1)).write (Elt F) ((outM.access (batchR 0)).write (Elt F) f (k0_pay20 (B.attn c 0) (B.wo c)) Finset.univ)
      (k0_pay20 (B.attn c 1) (B.wo c)) Finset.univ) := by
  have hb : ∀ b : Fin 2, rdA (b := cc0_stg5_0) (batchR b) ((outM.access (batchR 1)).write (Elt F) ((outM.access (batchR 0)).write (Elt F) f (k0_pay20 (B.attn c 0) (B.wo c)) Finset.univ)
      (k0_pay20 (B.attn c 1) (B.wo c)) Finset.univ) = k0_pay20 (B.attn c b) (B.wo c) := by
    intro b
    by_cases h : b = 1
    · subst h; exact read_write_self (b := cc0_stg5_0) (batchR 1) _ _
    · have h0 : b = 0 := by omega
      subst h0
      exact (read_write_apart (b := cc0_stg5_0) (batchR 0) (batchR 1) (batch_apart (by decide)) _ _).trans (read_write_self (b := cc0_stg5_0) (batchR 0) _ _)
  intro q
  rw [show (0 + 7 - q.val) / 8 = 0 from by omega, read_chunk, hb]
  rfl

end Cert.Proof

end
-- ==== Proof.Body.lean ====
/- The run of the whole body: the signals, the two batches with the barrier's wait between them, the first round's
   sends, and the receives with the later rounds' sends. -/
module

public import proofs.«01_k».proof.Proof.Compute
public import Idealize.ShloMosaic.Lib.Ring.FamCut

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (B : Blocks F) (K : Dev nD × CK → ℕ) (c : Dev nD)

/-! ## All messages at once -/

/-- Message `i` after `a` receives and `n` sends. -/
def stage (a n : ℕ) (i : Fin 24) : sProp 𝕄 := if i.val < a then done c i else if i.val < n then flying c i else ready c i
/-- All messages after `a` receives and `n` sends. -/
def stages (a n : ℕ) : sProp 𝕄 := bigSep Finset.univ (stage c a n)

omit [FloatOps F] in
/-- The next message to receive comes out, and goes back received. -/
theorem take_flying (i : Fin 24) (n : ℕ) (h : i.val < n) :
    (stages c i.val n : sProp 𝕄) ⊢ iprop(flying c i ∗ (done c i -∗ stages c (i.val + 1) n)) := by
  have e0 : (stage c i.val n i : sProp 𝕄) = flying c i := by unfold stage; rw [if_neg (lt_irrefl _), if_pos h]
  have e1 : (stage c (i.val + 1) n i : sProp 𝕄) = done c i := by unfold stage; rw [if_pos (Nat.lt_succ_self _)]
  rw [← e0, ← e1]
  refine bigSep_univ_update i fun j hj => ?_
  have hne : j.val ≠ i.val := fun e => hj (Fin.ext e)
  unfold stage
  by_cases hlt : j.val < i.val
  · rw [if_pos hlt, if_pos (by omega)]
  · rw [if_neg hlt, if_neg (by omega)]

omit [FloatOps F] in
/-- The next message to send comes out, and goes back sent. -/
theorem take_ready (i : Fin 24) (a : ℕ) (h : a ≤ i.val) :
    (stages c a i.val : sProp 𝕄) ⊢ iprop(ready c i ∗ (flying c i -∗ stages c a (i.val + 1))) := by
  have e0 : (stage c a i.val i : sProp 𝕄) = ready c i := by unfold stage; rw [if_neg (by omega), if_neg (lt_irrefl _)]
  have e1 : (stage c a (i.val + 1) i : sProp 𝕄) = flying c i := by unfold stage; rw [if_neg (by omega), if_pos (Nat.lt_succ_self _)]
  rw [← e0, ← e1]
  refine bigSep_univ_update i fun j hj => ?_
  have hne : j.val ≠ i.val := fun e => hj (Fin.ext e)
  unfold stage
  by_cases hlt : j.val < i.val
  · rw [if_pos hlt, if_pos (by omega : j.val < i.val + 1)]
  · rw [if_neg hlt, if_neg (by omega : ¬ j.val < i.val + 1)]

omit [FloatOps F] in
theorem stages_start : (stages c 0 0 : sProp 𝕄) = bigSep Finset.univ fun i => ready c i :=
  bigSep_congr fun i _ => by unfold stage; rw [if_neg (Nat.not_lt_zero _), if_neg (Nat.not_lt_zero _)]
omit [FloatOps F] in
theorem stages_end : (stages c 24 24 : sProp 𝕄) = bigSep Finset.univ fun i => done c i :=
  bigSep_congr fun i _ => by unfold stage; rw [if_pos i.isLt]

/-- The sends of a batch's chunks from `m` on. -/
theorem run_puts (b : Fin 2) (js : List (Fin 4)) : ∀ (m : ℕ), js = (List.finRange 4).drop m → ∀ (W : Waits sig Unit) (Q : PUnit → sProp 𝕄),
    iprop(records B K ∗ stages c 0 (4 * b.val + m) ∗ owes (c : Thread nD τ) (owed c (4 * b.val + m)) W
        ∗ (∀ m', (⌜4 ≤ m' ∧ (m ≤ 4 → m' = 4)⌝ ∗ stages c 0 (4 * b.val + m') ∗ owes (c : Thread nD τ) (owed c (4 * b.val + m')) W) -∗ Q ⟨⟩))
      ⊢ run c (puts c b (B.part c b) js) Q := by
  induction js with
  | nil =>
    intro m hm W Q
    have : 4 ≤ m := by simpa using hm
    iintro ⟨-, Hst, HO, HK⟩
    iapply (run_ret c)
    iapply HK
    isplitr; · ipureintro; exact ⟨this, fun h => by omega⟩
    isplitl [Hst]; · iexact Hst
    iexact HO
  | cons j js ih =>
    intro m hm W Q
    have hlt : m < 4 := by
      by_contra hge
      rw [List.drop_eq_nil_of_le (by simp; omega)] at hm
      cases hm
    rw [List.drop_eq_getElem_cons (by simpa using hlt)] at hm
    obtain ⟨rfl, rfl⟩ := List.cons.inj hm
    rw [List.getElem_finRange]
    show _ ⊢ run c (put c _ _ >>= fun _ => puts _ _ _ _) Q
    rw [run_bind]
    obtain ⟨i, hi⟩ : ∃ i : Fin 24, i.val = 4 * b.val + m := ⟨⟨4 * b.val + m, by omega⟩, rfl⟩
    rw [← hi, show (⟨4 * b.val + (Fin.cast (by simp) (⟨m, by simpa using hlt⟩ : Fin (List.finRange 4).length) : Fin 4).val, by show 4 * b.val + m < 24; omega⟩ : Fin 24) = i from Fin.ext hi.symm]
    iintro ⟨#HR, Hst, HO, HK⟩
    ihave Hst' := (take_ready c i 0 (Nat.zero_le _)) $$ Hst
    icases Hst' with ⟨Hr, Hst⟩
    rw [owed_peel]
    iapply (run_put B K c i _ (by
      have hr : rnd i = 0 := by show i.val / 8 = 0; omega
      rw [hr]
      show chunkPay _ _ = chunkPay (qj (rows i)) (B.part c (qb (rows i)))
      have e1 : qb (rows i) = b := Fin.ext (by show i.val % 8 / 4 = b.val; omega)
      have e2 : qj (rows i) = (⟨m, hlt⟩ : Fin 4) := Fin.ext (by show i.val % 8 % 4 = m; omega)
      rw [e1, e2]; rfl) (owed c (i.val + 1)) W _) $$ [Hr Hst HO HK]
    isplitr; · iexact HR
    isplitl [Hr]; · iexact Hr
    isplitl [HO]; · iexact HO
    iintro ⟨Hf, HO⟩
    ispecialize Hst $$ Hf
    iapply (ih (m + 1) rfl W Q)
    rw [show 4 * b.val + (m + 1) = i.val + 1 from by omega]
    isplitr; · iexact HR
    isplitl [Hst]; · iexact Hst
    isplitl [HO]; · iexact HO
    iintro %m' ⟨%hm', Hst, HO⟩
    iapply HK
    isplitr; · ipureintro; exact ⟨hm'.1, fun _ => hm'.2 (by omega)⟩
    isplitl [Hst]; · iexact Hst
    iexact HO

/-- One receive, and the next round's send of the same rows where there is one. -/
theorem run_step (i : Fin 24) (f : Out F) (hf : sums B c i.val f) (W : Waits sig Unit) (Q : PUnit → sProp 𝕄) :
    iprop(records B K ∗ levAts L lv ∗ stages c i.val (min (i.val + 8) 24) ∗ owes (c : Thread nD τ) (owed c (min (i.val + 8) 24)) W ∗ wh c cc0_stg5_0 f
        ∗ (∀ W' f', (⌜sums B c (i.val + 1) f'⌝ ∗ stages c (i.val + 1) (min (i.val + 1 + 8) 24) ∗ owes (c : Thread nD τ) (owed c (min (i.val + 1 + 8) 24)) W' ∗ wh c cc0_stg5_0 f') -∗ Q ⟨⟩))
      ⊢ run c (step c i) Q := by
  unfold step
  rw [run_bind]
  have hi := i.isLt
  iintro ⟨#HR, #Hlev, Hst, HO, Hout, HK⟩
  ihave Hst' := (take_flying c i (min (i.val + 8) 24) (by omega)) $$ Hst
  icases Hst' with ⟨Hf, Hst⟩
  iapply (run_get B K c i (min (i.val + 8) 24) (by omega) f hf W _) $$ [Hf Hst HO Hout HK]
  isplitr; · iexact HR
  isplitr; · iexact Hlev
  isplitl [Hf]; · iexact Hf
  isplitl [HO]; · iexact HO
  isplitl [Hout]; · iexact Hout
  iintro %W' %f' ⟨%hf', Hd, HO, Hout⟩
  ispecialize Hst $$ Hd
  by_cases h : i.val < 16
  · rw [dif_pos h]
    obtain ⟨j, hj⟩ : ∃ j : Fin 24, j.val = i.val + 8 := ⟨⟨i.val + 8, by omega⟩, rfl⟩
    rw [show (⟨i.val + 8, by omega⟩ : Fin 24) = j from Fin.ext hj.symm, show min (i.val + 8) 24 = j.val from by omega, show min (i.val + 1 + 8) 24 = j.val + 1 from by omega, owed_peel]
    ihave Hst' := (take_ready c j (i.val + 1) (by omega)) $$ Hst
    icases Hst' with ⟨Hr, Hst⟩
    iapply (run_put B K c j _ (by
      rw [show rnd j = rnd i + 1 from by show j.val / 8 = i.val / 8 + 1; omega, show rows j = rows i from Fin.ext (by show j.val % 8 = i.val % 8; omega)]) (owed c (j.val + 1)) W' _) $$ [Hr Hst HO Hout HK]
    isplitr; · iexact HR
    isplitl [Hr]; · iexact Hr
    isplitl [HO]; · iexact HO
    iintro ⟨Hf, HO⟩
    ispecialize Hst $$ Hf
    iapply HK
    isplitr; · ipureintro; exact hf'
    isplitl [Hst]; · iexact Hst
    isplitl [HO]; · iexact HO
    iexact Hout
  · rw [dif_neg h, show min (i.val + 8) 24 = 24 from by omega, show min (i.val + 1 + 8) 24 = 24 from by omega]
    iapply (run_ret c)
    iapply HK
    isplitr; · ipureintro; exact hf'
    isplitl [Hst]; · iexact Hst
    isplitl [HO]; · iexact HO
    iexact Hout

/-- The receives from message `n` on. -/
theorem run_steps (is : List (Fin 24)) : ∀ (n : ℕ), is = (List.finRange 24).drop n → ∀ (f : Out F), n ≤ 24 → sums B c n f → ∀ (W : Waits sig Unit) (Q : PUnit → sProp 𝕄),
    iprop(records B K ∗ levAts L lv ∗ stages c n (min (n + 8) 24) ∗ owes (c : Thread nD τ) (owed c (min (n + 8) 24)) W ∗ wh c cc0_stg5_0 f
        ∗ (∀ W' f', (⌜sums B c 24 f'⌝ ∗ stages c 24 24 ∗ owes (c : Thread nD τ) (owed c 24) W' ∗ wh c cc0_stg5_0 f') -∗ Q ⟨⟩))
      ⊢ run c (steps c is) Q := by
  induction is with
  | nil =>
    intro n hn f hle hf W Q
    have h24 : 24 ≤ n := by simpa using hn
    obtain rfl : n = 24 := by omega
    iintro ⟨-, -, Hst, HO, Hout, HK⟩
    iapply (run_ret c)
    iapply HK
    isplitr; · ipureintro; exact hf
    isplitl [Hst]; · iexact Hst
    isplitl [HO]; · iexact HO
    iexact Hout
  | cons i is ih =>
    intro n hn f hle hf W Q
    have hlt : n < 24 := by
      by_contra hge
      rw [List.drop_eq_nil_of_le (by simp; omega)] at hn
      cases hn
    rw [List.drop_eq_getElem_cons (by simpa using hlt)] at hn
    obtain ⟨h1, rfl⟩ := List.cons.inj hn
    have hi : i.val = n := by rw [h1, List.getElem_finRange]; rfl
    subst hi
    show _ ⊢ run c (step c _ >>= fun _ => steps _ _) Q
    rw [run_bind]
    iintro ⟨#HR, #Hlev, Hst, HO, Hout, HK⟩
    iapply (run_step B K c i f hf W _) $$ [Hst HO Hout HK]
    isplitr; · iexact HR
    isplitr; · iexact Hlev
    isplitl [Hst]; · iexact Hst
    isplitl [HO]; · iexact HO
    isplitl [Hout]; · iexact Hout
    iintro %W' %f' ⟨%hf', Hst, HO, Hout⟩
    iapply (ih (i.val + 1) rfl f' (by omega) hf' W' Q)
    isplitr; · iexact HR
    isplitr; · iexact Hlev
    isplitl [Hst]; · iexact Hst
    isplitl [HO]; · iexact HO
    isplitl [Hout]; · iexact Hout
    iexact HK

end Cert.Proof

end
-- ==== Proof.Device.lean ====
/- One device's run from its launch state to its result, and the pipeline's obligation for it. -/
module

public import proofs.«01_k».proof.Proof.Body

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (B : Blocks F) (K : Dev nD × CK → ℕ) (c : Dev nD)

/-! ## The slots by round -/

/-- Messages as rounds of eight. -/
def msgE : Fin 3 × Fin 8 ≃ Fin 24 := finProdFinEquiv

theorem msgE_apply (r : Fin 3) (k : Fin 8) : msgE (r, k) = msg r k := Fin.ext (by show k.val + 8 * r.val = 8 * r.val + k.val; omega)
theorem rnd_msg (r : Fin 3) (k : Fin 8) : rnd (msg r k) = r.val := by show (8 * r.val + k.val) / 8 = r.val; omega

omit [FloatOps F] in
/-- A family over the messages, round by round. -/
theorem by_round (Φ : Fin 24 → sProp 𝕄) :
    bigSep Finset.univ Φ = bigSep Finset.univ fun r : Fin 3 => bigSep Finset.univ fun k : Fin 8 => Φ (msg r k) := by
  rw [bigSep_univ_equiv msgE Φ, bigSep_univ_prod]
  exact bigSep_congr fun r _ => bigSep_congr fun k _ => by rw [msgE_apply]

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A family over a device's cells: the barrier's, the sends', the receives'. -/
theorem by_cell (Φ : CK → sProp 𝕄) :
    bigSep Finset.univ Φ = iprop(Φ (.inl ()) ∗ (bigSep Finset.univ fun i : Fin 24 => Φ (.inr (.inl i))) ∗ bigSep Finset.univ fun i : Fin 24 => Φ (.inr (.inr i))) := by
  rw [bigSep_univ_sum, bigSep_univ_sum]
  exact congrArg (fun x => iprop(x ∗ _)) (bigSep_univ_eq_bigSepL [()] (by decide) (by decide) fun a => Φ (.inl a))

/-- What the barrier's wait hands a device: its peers' slots for its messages. -/
theorem peer_slots :
    (bigSep Finset.univ fun d : Fin 3 => pay B c (.inl ()) d) = (bigSep Finset.univ fun i : Fin 24 => iprop(∃ f, rPts (peer (rnd i) c) i f) : sProp 𝕄) := by
  rw [by_round fun i : Fin 24 => iprop(∃ f, rPts (peer (rnd i) c) i f)]
  refine bigSep_congr fun r _ => bigSep_congr fun k _ => ?_
  rw [rnd_msg]

/-- What a device hands its peer of round `r`: its own slots for that round's messages. -/
theorem own_slots (r : Fin 3) :
    (bigSep Finset.univ fun k : Fin 8 => iprop(∃ f, rPts c (msg r k) f) : sProp 𝕄) = pay B (peer r.val c) (.inl ()) r := by
  show _ = bigSep Finset.univ fun k : Fin 8 => iprop(∃ f, rPts (peer r.val (peer r.val c)) (msg r k) f)
  rw [peer_peer]

theorem sslot_apart (i j : Fin 24) (h : i ≠ j) : Disjoint (sslot i).view.set (sslot j).view.set := by
  rw [sslot_set, sslot_set]; exact View.disjoint_slice (v := sbufM.view) (slot_apart h)
theorem rslot_apart (i j : Fin 24) (h : i ≠ j) : Disjoint (rslot i).view.set (rslot j).view.set := by
  rw [rslot_set, rslot_set]; exact View.disjoint_slice (v := rbufM.view) (slot_apart h)

/-- The slots of the buffer the sends read. -/
abbrev sSets (i : Fin 24) := (sslot i).view.set
/-- The slots of the buffer the sends land in. -/
abbrev rSets (i : Fin 24) := (rslot i).view.set

/-! ## The signals -/

/-- The signal to the peer of round `r`. -/
theorem run_signal (r : Fin 3) (O : CellTallies nD τ sig Unit) (W : Waits sig Unit) {α : Type} (k : PUnit → P F α) (Q : α → sProp 𝕄) :
    iprop(records B K ∗ owes (c : Thread nD τ) (O + dueBar c r.val) W ∗ dutyTok ER (barCell (peer r.val c)) 0 r
        ∗ (bigSep Finset.univ fun k : Fin 8 => iprop(∃ f, rPts c (msg r k) f)))
      ⊢ iprop((owes (c : Thread nD τ) O W -∗ run c (k ⟨⟩) Q)
          -∗ run c (.op (.semSignal (Dev.tc (peer r.val c) : Thread nD τ) barSem (1#32).toInt) k) Q) := by
  iintro ⟨#HR, HO, Ht, Hp⟩
  ihave #HI := (inv_at B K (peer r.val c, .inl ())) $$ HR
  ihave #Hr := (reached_at B K (peer r.val c, .inl ())) $$ HR
  iapply (Rounds.wp_signal 𝒱₀ ER (rd B) (c : Thread nD τ) none (dst := (peer r.val c : Thread nD τ)) (κ := K (peer r.val c, .inl ()))
      (d := r) (by rw [show (rd B).duties ((peer r.val c : Thread nD τ), SemLoc.reg barSem) 0 = Finset.univ from rd_duties B _ (.inl ())]; exact Finset.mem_univ _) ((rd_amount B (peer r.val c) (.inl ()) r).trans (by decide)) () O rfl) $$ [HO Ht Hp]
  isplitr; · iexact HI
  isplitl [HO]; · iexact HO
  isplitl [Ht]; · iexact Ht
  isplitl [Hp]
  · rw [show (rd B).payload ((peer r.val c : Thread nD τ), SemLoc.reg barSem) 0 r = pay B (peer r.val c) (.inl ()) r from rd_payload _ B (.inl ()) r]
    iapply (Entails.of_eq (own_slots B c r)); iexact Hp
  iexact Hr

/-! ## The body -/

/-- The scratch buffers, whole. -/
def scratch : sProp 𝕄 :=
  iprop((∃ f, wh c cc0_scratch0 f) ∗ (∃ f, wh c cc0_scratch1 f) ∗ (∃ f, wh c cc0_scratch2 f) ∗ (∃ f, wh c cc0_scratch3 f))

/-- Every cell of the device closed, its counter at zero. -/
def closed : sProp 𝕄 :=
  iprop(semVal (barCell c) 0 ∗ (bigSep Finset.univ fun i : Fin 24 => semVal (sendCell c i) 0) ∗ bigSep Finset.univ fun i : Fin 24 => semVal (recvCell c i) 0)

omit [FloatOps F] in
/-- All messages ready to be sent, from their parts. -/
theorem ready_all :
    iprop((bigSep Finset.univ fun i : Fin 24 => atPos ER (sendCell c i) 0 ∅ 0) ∗ (bigSep Finset.univ fun i : Fin 24 => atPos ER (recvCell c i) 0 ∅ 0)
        ∗ (bigSep Finset.univ fun i : Fin 24 => cred (tallyAt (recvCell c i) () N))
        ∗ (bigSep Finset.univ fun i : Fin 24 => dutyTok ER (sendCell c i) 0 0)
        ∗ (bigSep Finset.univ fun i : Fin 24 => dutyTok ER (recvCell (peer (rnd i) c) i) 0 0)
        ∗ (bigSep Finset.univ fun i : Fin 24 => iprop(∃ f, sPts c i f))
        ∗ (bigSep Finset.univ fun i : Fin 24 => iprop(∃ f, rPts (peer (rnd i) c) i f)))
      ⊢ (stages c 0 0 : sProp 𝕄) := by
  rw [stages_start]
  unfold ready book
  simp only [bigSep_sep']
  iintro ⟨H1, H2, H3, H4, H5, H6, H7⟩
  isplitl [H1 H2 H3]
  · isplitl [H1]; · iexact H1
    isplitl [H2] <;> iassumption
  isplitl [H4]; · iexact H4
  isplitl [H5]; · iexact H5
  isplitl [H6] <;> iassumption

omit [FloatOps F] in
/-- All messages received: the parts. -/
theorem done_all :
    (stages c 24 24 : sProp 𝕄) ⊢ iprop((bigSep Finset.univ fun i : Fin 24 => semVal (sendCell c i) 0) ∗ (bigSep Finset.univ fun i : Fin 24 => semVal (recvCell c i) 0)
        ∗ (bigSep Finset.univ fun i : Fin 24 => iprop(∃ f, sPts c i f)) ∗ (bigSep Finset.univ fun i : Fin 24 => iprop(∃ f, rPts c i f))) := by
  rw [stages_end]
  unfold done
  simp only [bigSep_sep']
  exact Entails.refl _

/-- The body's run. -/
theorem run_body (W : Waits sig Unit) (f : Out F) (Q : PUnit → sProp 𝕄) :
    iprop(records B K ∗ linear c ∗ creds c ∗ levAts L lv ∗ scratch c ∗ owes (c : Thread nD τ) (O₀ c) W ∗ inputs c B ∗ wh c cc0_stg5_0 f
        ∗ (∀ W', (closed c ∗ scratch c ∗ owes (c : Thread nD τ) 0 W' ∗ inputs c B ∗ wh c cc0_stg5_0 (B.out c)) -∗ Q ⟨⟩))
      ⊢ run c body Q := by
  unfold body signals
  simp only [semSignalWord, semWaitWord, Prog.lift, Prog.bind_op, Prog.bind_ret, Prog.pure_eq_ret, wp_deviceId]
  unfold linear payToks creds scratch
  rw [by_cell]
  iintro ⟨#HR, ⟨⟨HaB, HaS, HaV⟩, HtB, HtS, HtV⟩, ⟨HcB, HcV⟩, #Hlev, ⟨Hqkv, Hattn, Hsb, Hrb⟩, HO, Hin, Hout, HK⟩
  ihave Hsb := (Ring.fam_split_ex (ℓ := (c : Thread nD τ).loc cc0_scratch2) sSets (fun i j h => sslot_apart i j h)) $$ Hsb
  icases Hsb with ⟨Hs, Hsrest⟩
  ihave Hrb := (Ring.fam_split_ex (ℓ := (c : Thread nD τ).loc cc0_scratch3) rSets (fun i j h => rslot_apart i j h)) $$ Hrb
  icases Hrb with ⟨Hr, Hrrest⟩
  ihave Hr := (show (bigSep Finset.univ fun i : Fin 24 => iprop(∃ f, (c : Thread nD τ).loc cc0_scratch3 ↦[rSets i]{fullShare} f) : sProp 𝕄)
      ⊢ iprop((bigSep Finset.univ fun k : Fin 8 => iprop(∃ f, rPts c (msg 0 k) f)) ∗ (bigSep Finset.univ fun k : Fin 8 => iprop(∃ f, rPts c (msg 1 k) f))
          ∗ bigSep Finset.univ fun k : Fin 8 => iprop(∃ f, rPts c (msg 2 k) f)) from
      Entails.of_eq ((by_round fun i : Fin 24 => iprop(∃ f, rPts c i f)).trans (three _))) $$ Hr
  icases Hr with ⟨Hr0, Hr1, Hr2⟩
  ihave HtB := (Entails.of_eq (three fun r : Fin 3 => (dutyTok ER (barCell (peer r.val c)) 0 r : sProp 𝕄))) $$ HtB
  icases HtB with ⟨Ht0, Ht1, Ht2⟩
  unfold O₀
  iapply (run_signal B K c 0 (owed c 0 + dueBar c 2 + dueBar c 1) W _ _) $$ [HO Ht0 Hr0]
  · isplitr; · iexact HR
    isplitl [HO]; · iexact HO
    isplitl [Ht0] <;> iassumption
  iintro HO
  iapply (run_signal B K c 1 (owed c 0 + dueBar c 2) W _ _) $$ [HO Ht1 Hr1]
  · isplitr; · iexact HR
    isplitl [HO]; · iexact HO
    isplitl [Ht1] <;> iassumption
  iintro HO
  iapply (run_signal B K c 2 (owed c 0) W _ _) $$ [HO Ht2 Hr2]
  · isplitr; · iexact HR
    isplitl [HO]; · iexact HO
    isplitl [Ht2] <;> iassumption
  iintro HO
  first | rw [run_bind] | rw [wp_bind]
  iapply (run_batch c B 0 f _) $$ [-]
  isplitl [Hin]; · iexact Hin
  isplitl [Hqkv]; · iexact Hqkv
  isplitl [Hattn]; · iexact Hattn
  isplitl [Hout]; · iexact Hout
  iintro ⟨Hin, Hqkv, Hattn, Hout⟩
  ihave #HIb := (inv_at B K (c, .inl ())) $$ HR
  iapply (Rounds.wp_wait_rest_token 𝒱₀ ER (rd B) (c : Thread nD τ) none (κ := K (c, .inl ()))
      (wpE_semWait_eq 𝒱₀ (c : Thread nD τ) none Set.univ) (Set.mem_univ _) () (O := owed c 0) (W := W) (R := 0) (m := 0) (T := ∅)
      (by rw [Nat.zero_add, show (rd B).expect ((c : Thread nD τ), SemLoc.reg barSem) 0 = 3 from expect_bar B c]; decide)) $$ [HcB HO HaB]
  · isplitr; · iexact HIb
    isplitl [HcB]; · iexact HcB
    isplitl [HO]; · iexact HO
    isplitr; · iapply (mayWait_owed c _ 0 (by rw [cellIx_bar]; decide)); iexact Hlev
    iexact HaB
  iintro ⟨HO, HaB, -, Hpay⟩
  ihave Hr := (Entails.of_eq ((rest_bar B c).trans (peer_slots B c))) $$ Hpay
  imod (Rounds.cell_close ER (rd B) (Set.mem_univ (K (c, .inl ()))) (fun h => h) (R := 0 + 1) (rd_later B (barCell c))) $$ [HaB] with HzB
  · isplitr; · iexact HIb
    iexact HaB
  ihave Hst := (ready_all c) $$ [HaS HaV HcV HtS HtV Hs Hr]
  · isplitl [HaS]; · iexact HaS
    isplitl [HaV]; · iexact HaV
    isplitl [HcV]; · iexact HcV
    isplitl [HtS]; · iexact HtS
    isplitl [HtV]; · iexact HtV
    isplitl [Hs]; · iexact Hs
    iexact Hr
  first | rw [run_bind] | rw [wp_bind]
  iapply (run_puts B K c 0 _ 0 rfl _ _) $$ [-]
  isplitr; · iexact HR
  isplitl [Hst]; · iexact Hst
  isplitl [HO]; · iexact HO
  iintro %m1 ⟨%hm1, Hst, HO⟩
  obtain rfl : m1 = 4 := hm1.2 (by decide)
  first | rw [run_bind] | rw [wp_bind]
  iapply (run_batch c B 1 _ _) $$ [-]
  isplitl [Hin]; · iexact Hin
  isplitl [Hqkv]; · iexact Hqkv
  isplitl [Hattn]; · iexact Hattn
  isplitl [Hout]; · iexact Hout
  iintro ⟨Hin, Hqkv, Hattn, Hout⟩
  first | rw [run_bind] | rw [wp_bind]
  iapply (run_puts B K c 1 _ 0 rfl _ _) $$ [-]
  isplitr; · iexact HR
  isplitl [Hst]; · iexact Hst
  isplitl [HO]; · iexact HO
  iintro %m2 ⟨%hm2, Hst, HO⟩
  obtain rfl : m2 = 4 := hm2.2 (by decide)
  iapply (run_steps B K c _ 0 rfl _ (by decide) (sums_start c B f) _ _) $$ [-]
  isplitr; · iexact HR
  isplitr; · iexact Hlev
  isplitl [Hst]; · iexact Hst
  isplitl [HO]; · iexact HO
  isplitl [Hout]; · iexact Hout
  iintro %W' %f' ⟨%hf', Hst, HO, Hout⟩
  rw [owed_end c 24 (le_refl _)]
  have e : f' = B.out c := out_of_reads B c f' fun q => (hf' q).trans (by rw [show (24 + 7 - q.val) / 8 = 3 from by omega])
  subst e
  ihave Hd := (done_all c) $$ Hst
  icases Hd with ⟨HzS, HzV, Hs, Hr⟩
  iapply HK
  isplitl [HzB HzS HzV]
  · unfold closed
    isplitl [HzB]; · iexact HzB
    isplitl [HzS] <;> iassumption
  isplitl [Hqkv Hattn Hs Hsrest Hr Hrrest]
  · isplitl [Hqkv]; · iexact Hqkv
    isplitl [Hattn]; · iexact Hattn
    isplitl [Hs Hsrest]
    · icases Hsrest with ⟨%g, Hsrest⟩
      iapply (Ring.fam_join (ℓ := (c : Thread nD τ).loc cc0_scratch2) sSets (fun i j h => sslot_apart i j h) g)
      isplitl [Hs]; · iexact Hs
      iexists g; iexact Hsrest
    · icases Hrrest with ⟨%g, Hrrest⟩
      iapply (Ring.fam_join (ℓ := (c : Thread nD τ).loc cc0_scratch3) rSets (fun i j h => rslot_apart i j h) g)
      isplitl [Hr]; · iexact Hr
      iexists g; iexact Hrrest
  isplitl [HO]; · iexact HO
  isplitl [Hin]; · iexact Hin
  iexact Hout

end Cert.Proof

end
-- ==== Proof.Launch.lean ====
/- The launch: the protocol's records minted and dealt to the devices, the credit of what the devices owe, and the
   run of the whole program on the mesh. -/
module

public import proofs.«01_k».proof.Proof.Device
public import Idealize.ShloMosaic.Lib.Pipeline.CollectiveSegs

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What the devices' staged blocks hold, given the memory at launch. -/
def blocks : Blocks F where
  x c := (win0_0.blk t0_0).view.read (Elt F) (m ((c : Thread nD τ).loc main_arg0))
  wq c := (win0_1.blk t0_0).view.read (Elt F) (m ((c : Thread nD τ).loc main_arg1))
  wo c := (win0_2.blk t0_0).view.read (Elt F) (m ((c : Thread nD τ).loc main_arg4))
  wk c := (win0_3.blk t0_0).view.read (Elt F) (m ((c : Thread nD τ).loc main_arg2))
  wv c := (win0_4.blk t0_0).view.read (Elt F) (m ((c : Thread nD τ).loc main_arg3))

/-- Before the body: the protocol's start and the scratch. -/
def Φ₀ (c : Dev nD) : sProp 𝕄 := iprop(start (blocks m) c ∗ scratch c)
/-- After it: the cells closed and the scratch. -/
def Φ₁ (c : Dev nD) : sProp 𝕄 := iprop(closed c ∗ scratch c)

/-- The pipeline's proof data: what each window holds before and after the one point. -/
def dats (_ : Fin 1) (c : Dev nD) : Dat τ (Elt F) Unit ℕ UU ℕ cfg0 c where
  A w := m ((cfg0.win w).arr.view.loc (c : Thread nD τ))
  after w _ := match w with
    | ⟨0, _⟩ => (blocks m).x c
    | ⟨1, _⟩ => (blocks m).wq c
    | ⟨2, _⟩ => (blocks m).wo c
    | ⟨3, _⟩ => (blocks m).wk c
    | ⟨4, _⟩ => (blocks m).wv c
    | ⟨5, _⟩ => (blocks m).out c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ wh c b f) := by
  unfold owns; simp only [Memref.view_whole, View.read_whole, View.set_whole]

/-- A staging buffer at contents `X`. -/
abbrev stg (c : Dev nD) (b : Ref sig .tc) (X : b.ty.Contents (Elt F)) : sProp 𝕄 := iprop(∃ f, ⌜f = X⌝ ∗ wh c b f)

/-- What the pipeline hands the body. -/
def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

/-- What the body hands back. -/
def bodyPost (c : Dev nD) : sProp 𝕄 :=
  iprop(Φ₁ c ∗ (dats m 0 c).owesAt () t0_0.succ
    ∗ stg c cc0_stg0_0 ((blocks m).x c) ∗ stg c cc0_stg1_0 ((blocks m).wq c) ∗ stg c cc0_stg2_0 ((blocks m).wo c)
    ∗ stg c cc0_stg3_0 ((blocks m).wk c) ∗ stg c cc0_stg4_0 ((blocks m).wv c) ∗ stg c cc0_stg5_0 ((blocks m).out c))

theorem run_point (c : Dev nD) : bodyPre m c ⊢ run c (bodyAt0 (F := F) t0_0) (fun _ => bodyPost m c) := by
  rw [body_eq]
  unfold bodyPre Φ₀ start
  iintro ⟨⟨⟨⟨%K, #HR, Hlin⟩, Hcr, #Hlev⟩, Hscr⟩, Ho, ⟨%d0, %g0, %h0, Hx⟩, ⟨%d1, %g1, %h1, Hq⟩, ⟨%d2, %g2, %h2, Hwo⟩, ⟨%d3, %g3, %h3, Hk⟩, ⟨%d4, %g4, %h4, Hv⟩, ⟨%d5, %g5, %h5, Hout⟩⟩
  have e0 : g0 = (blocks m).x c := by rw [h0]; unfold Dat.before; rw [if_pos (fetch0_0 t0_0)]; rfl
  have e1 : g1 = (blocks m).wq c := by rw [h1]; unfold Dat.before; rw [if_pos (fetch0_1 t0_0)]; rfl
  have e2 : g2 = (blocks m).wo c := by rw [h2]; unfold Dat.before; rw [if_pos (fetch0_2 t0_0)]; rfl
  have e3 : g3 = (blocks m).wk c := by rw [h3]; unfold Dat.before; rw [if_pos (fetch0_3 t0_0)]; rfl
  have e4 : g4 = (blocks m).wv c := by rw [h4]; unfold Dat.before; rw [if_pos (fetch0_4 t0_0)]; rfl
  subst e0 e1 e2 e3 e4
  unfold Dat.owesAt Pipeline.owesWithin
  icases Ho with ⟨%W, %hW, HO⟩
  rw [show (dats m 0 c).owed t0_0.castSucc = O₀ c from rfl]
  iapply (run_body (blocks m) K c W g5 _) $$ [-]
  isplitr; · iexact HR
  isplitl [Hlin]; · iexact Hlin
  isplitl [Hcr]; · iexact Hcr
  isplitr; · iexact Hlev
  isplitl [Hscr]; · iexact Hscr
  isplitl [HO]; · iexact HO
  isplitl [Hx Hq Hwo Hk Hv]
  · unfold inputs
    isplitl [Hx]; · iexact Hx
    isplitl [Hq]; · iexact Hq
    isplitl [Hwo]; · iexact Hwo
    isplitl [Hk]; · iexact Hk
    iexact Hv
  isplitl [Hout]; · iexact Hout
  iintro %W' ⟨Hz, Hscr, HO, Hin, Hout⟩
  unfold inputs
  icases Hin with ⟨Hx, Hq, Hwo, Hk, Hv⟩
  unfold bodyPost Φ₁ Dat.owesAt Pipeline.owesWithin
  rw [show (dats m 0 c).owed t0_0.succ = 0 from rfl]
  isplitl [Hz Hscr]; · isplitl [Hz] <;> iassumption
  isplitl [HO]
  · iexists W'
    isplitr; · ipureintro; exact fun _ _ => Or.inl trivial
    iexact HO
  isplitl [Hx]; · iexists _; isplitr; · (ipureintro; rfl)
                  iexact Hx
  isplitl [Hq]; · iexists _; isplitr; · (ipureintro; rfl)
                  iexact Hq
  isplitl [Hwo]; · iexists _; isplitr; · (ipureintro; rfl)
                   iexact Hwo
  isplitl [Hk]; · iexists _; isplitr; · (ipureintro; rfl)
                  iexact Hk
  isplitl [Hv]; · iexists _; isplitr; · (ipureintro; rfl)
                  iexact Hv
  iexists _; isplitr; · (ipureintro; rfl)
  iexact Hout

set_option maxRecDepth 40000 in
/-- The pipeline's obligation on each device. -/
theorem obligation (c : Dev nD) : BodyObligation (dats (F := F) m 0 c) (defs₀ (F := F)) 𝒱₀ () Set.univ := fun t => by
  rw [fin_N0 t]
  rw [bigSep_W0, bigSep_W0]
  simp only [owns_whole]
  exact run_point m c

/-! ## The records minted -/

/-- The protocol's cells. -/
def cells : Finset (GSem nD τ sig) := Finset.univ.map ⟨kcell, kcell_injective⟩

/-- The duties of one device's cells, as minted. -/
abbrev tokOf (cj : Dev nD × (Fin 3 ⊕ (Fin 24 ⊕ Fin 24))) : GSem nD τ sig × ℕ × Fin 3 :=
  match cj.2 with
  | .inl r => (barCell cj.1, 0, r)
  | .inr k => (kcell (cj.1, .inr k), 0, 0)

theorem tokOf_injective : Function.Injective tokOf := by
  rintro ⟨c, j⟩ ⟨c', j'⟩ h
  rcases j with r | k <;> rcases j' with r' | k'
  · have h1 := kcell_injective (congrArg Prod.fst h)
    have h2 : r = r' := congrArg (fun x : GSem nD τ sig × ℕ × Fin 3 => x.2.2) h
    exact Prod.ext (Prod.mk.inj h1).1 (congrArg Sum.inl h2)
  · exact absurd (Prod.mk.inj (kcell_injective (congrArg Prod.fst h))).2 (by simp)
  · exact absurd (Prod.mk.inj (kcell_injective (congrArg Prod.fst h))).2 (by simp)
  · obtain ⟨h1, h2⟩ := Prod.mk.inj (kcell_injective (congrArg Prod.fst h))
    exact Prod.ext h1 (congrArg Sum.inr (Sum.inr.inj h2))

/-- The duties minted. -/
def minted : Finset (GSem nD τ sig × ℕ × Fin 3) := Finset.univ.map ⟨tokOf, tokOf_injective⟩

/-- The launch's element: the pipeline's and the protocol's. -/
def u₀ : UU := (initOf (Pipeline.cells cfgs cellOf_inj) (Pipeline.launchToks cfgs cellOf_inj), initOf cells minted)

/-- The tokens of device `c`'s own cells. -/
def ownToks (c : Dev nD) : sProp 𝕄 :=
  iprop((bigSep Finset.univ fun r : Fin 3 => dutyTok ER (barCell c) 0 r)
    ∗ (bigSep Finset.univ fun i : Fin 24 => dutyTok ER (sendCell c i) 0 0) ∗ bigSep Finset.univ fun i : Fin 24 => dutyTok ER (recvCell c i) 0 0)

/-- What each device is dealt at first. -/
def G (c : Dev nD) : sProp 𝕄 :=
  iprop((bigSep Finset.univ fun k : CK => roundState ER (rd (blocks m)) (kcell (c, k)) 0)
    ∗ (bigSep Finset.univ fun k : CK => iprop(atPos ER (kcell (c, k)) 0 ∅ 0 ∗ reached ER (kcell (c, k)) 0)) ∗ ownToks c)

/-- What it holds once the invariants are allocated and the tokens exchanged. -/
def G' (c : Dev nD) : sProp 𝕄 := iprop(∃ K, records (blocks m) K ∗ linear c)

theorem mint : BI.own (ER (initOf cells minted)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep minted (fun x => (dutyTok ER x.1 x.2.1 x.2.2 : sProp 𝕄)) = bigSep Finset.univ fun c : Dev nD => ownToks c := by
    unfold minted; rw [bigSep_map, bigSep_univ_prod]
    refine bigSep_congr fun c _ => ?_
    rw [bigSep_univ_sum, bigSep_univ_sum]
    rfl
  iintro HX
  imod (Rounds.fund ER (rd (blocks m)) cells minted) $$ HX with ⟨Hst, Hr, Hat, Htok⟩
  imodintro
  ihave Hst' := (Entails.of_eq (hX fun g => roundState ER (rd (blocks m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's own semaphores are its sends' and its receives'. -/
theorem ownSems (c : Dev nD) : (Pipeline.ownSems0 (Ix := Unit) (Name := ℕ) (U := UU) (Lvl := ℕ) (Val := Elt F) (τ := τ) osem c : sProp 𝕄)
    = iprop((bigSep Finset.univ fun i : Fin 24 => semVal (sendCell c i) 0) ∗ bigSep Finset.univ fun i : Fin 24 => semVal (recvCell c i) 0) := by
  unfold Pipeline.ownSems0; rw [bigSep_univ_sum]; rfl
omit [FloatOps F] in
/-- The barrier's semaphore is the one that outlives the kernel. -/
theorem unscopedSems (c : Dev nD) : (unscopedSems0 c : sProp 𝕄) = semVal (barCell c) 0 := by
  unfold unscopedSems0; rw [bigSep_eq_bigSepL_of_eq [SemLoc.reg barSem] (by decide) (by decide)]; rfl

/-- One device's cells become invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (blocks m)) κ (kcell (c, k))))
          ∗ (bigSep Finset.univ fun k => iprop(atPos ER (kcell (c, k)) 0 ∅ 0 ∗ reached ER (kcell (c, k)) 0)) ∗ ownToks c) := by
  unfold G
  rw [ownSems, unscopedSems]
  iintro ⟨⟨HS, HV⟩, HB, Hst, Hat, Htok⟩
  ihave Hv := (Entails.of_eq (by_cell fun k : CK => (semVal (kcell (c, k)) 0 : sProp 𝕄)).symm) $$ [HS HV HB]
  · isplitl [HB]; · iexact HB
    isplitl [HS] <;> iassumption
  imod (show iprop((bigSep Finset.univ fun k : CK => semVal (kcell (c, k)) 0) ∗ bigSep Finset.univ fun k : CK => roundState ER (rd (blocks m)) (kcell (c, k)) 0)
      ⊢ (|={Set.univ}=> bigSep Finset.univ fun k => iprop(∃ κ : ℕ, cellInv ER (rd (blocks m)) κ (kcell (c, k))) : sProp 𝕄) from by
        rw [← bigSep_sep']
        exact (bigSep_mono fun k _ => (Rounds.body_intro ER (rd (blocks m)) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
/-- The tokens handed to the devices that pay the duties: a barrier's and a receive's to the peer. -/
theorem exchange : (bigSep Finset.univ fun c : Dev nD => (ownToks c : sProp 𝕄)) ⊢ bigSep Finset.univ fun c : Dev nD => payToks c := by
  unfold ownToks payToks
  simp only [bigSep_sep']
  rw [bigSep_univ_comm fun (c : Dev nD) (r : Fin 3) => (dutyTok ER (barCell c) 0 r : sProp 𝕄),
    bigSep_univ_comm fun (c : Dev nD) (r : Fin 3) => (dutyTok ER (barCell (peer r.val c)) 0 r : sProp 𝕄),
    bigSep_univ_comm fun (c : Dev nD) (i : Fin 24) => (dutyTok ER (recvCell c i) 0 0 : sProp 𝕄),
    bigSep_univ_comm fun (c : Dev nD) (i : Fin 24) => (dutyTok ER (recvCell (peer (rnd i) c) i) 0 0 : sProp 𝕄),
    bigSep_congr fun (r : Fin 3) _ => bigSep_univ_equiv (peerE r.val) fun c : Dev nD => (dutyTok ER (barCell c) 0 r : sProp 𝕄),
    bigSep_congr fun (i : Fin 24) _ => bigSep_univ_equiv (peerE (rnd i)) fun c : Dev nD => (dutyTok ER (recvCell c i) 0 0 : sProp 𝕄)]
  exact Entails.refl _

omit [FloatOps F] in
/-- A persistent fact goes to every member of a family. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records gathered from all devices and dealt to each. -/
theorem regroup :
    (bigSep Finset.univ fun c : Dev nD => iprop((bigSep Finset.univ fun k => iprop(∃ κ : ℕ, cellInv ER (rd (blocks m)) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × CK => iprop(∃ κ : ℕ, cellInv ER (rd (blocks m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd (blocks m)) κ (kcell ck) : sProp 𝕄))) $$ HI
  icases HK with ⟨%K, #HI⟩
  ihave Htk := (exchange (F := F)) $$ Htok
  iapply (deal (R := records (blocks m) K) (Φ := fun c => linear c) fun c _ => show iprop(records (blocks m) K ∗ linear c) ⊢ G' m c from by
    unfold G'; iintro ⟨#H1, H2⟩; iexists K; isplitr; · iexact H1
    iexact H2)
  isplitr
  · unfold records; isplitl; · iexact HI
    iexact HR
  · unfold linear
    iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

/-- All devices' cells become invariants, known to all. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credit of what is owed -/

/-- What device `d` owes a barrier cell: a unit for each round whose peer it is. -/
theorem owed_bar (d c : Dev nD) :
    O₀ d (barCell c) () = (if d = peer 2 c then 1 else 0) + (if d = peer 1 c then 1 else 0) + (if d = peer 0 c then 1 else 0) := by
  have h0 : owed d 0 (barCell c) () = 0 := Nat.eq_zero_of_not_pos fun hp => by
    obtain ⟨i, -, h⟩ := owed_pos hp
    exact absurd (Prod.mk.inj (kcell_injective h)).2 (by simp)
  have hb (r : Nat) : dueBar d r (barCell c) () = if d = peer r c then 1 else 0 := by
    unfold dueBar
    rw [tallyAt_apply]
    by_cases h : d = peer r c
    · subst h; rw [peer_peer, if_pos ⟨rfl, rfl⟩, if_pos rfl]
    · rw [if_neg (fun h' => h (by rw [(Prod.mk.inj (kcell_injective h'.1)).1, peer_peer])), if_neg h]
  unfold O₀
  simp only [Pi.add_apply, Finsupp.add_apply, h0, hb, Nat.zero_add]

/-- What device `d` owes a receive cell: the slot's credit if it is the message's sender. -/
theorem owed_recv (d c : Dev nD) (i : Fin 24) : O₀ d (recvCell c i) () = if d = peer (rnd i) c then N else 0 := by
  have hb (r : Nat) : dueBar d r (recvCell c i) () = 0 := by
    unfold dueBar
    rw [tallyAt_apply, if_neg fun h => absurd (Prod.mk.inj (kcell_injective h.1)).2 (by simp)]
  have ho : owed d 0 (recvCell c i) () = if d = peer (rnd i) c then N else 0 := by
    unfold owed
    rw [Finset.sum_apply, Finsupp.finsetSum_apply, Finset.sum_eq_single i]
    · unfold dueRecv
      rw [tallyAt_apply]
      by_cases h : d = peer (rnd i) c
      · subst h; rw [peer_peer, if_pos ⟨rfl, rfl⟩, if_pos rfl]
      · rw [if_neg (fun h' => h (by rw [(Prod.mk.inj (kcell_injective h'.1)).1, peer_peer])), if_neg h]
    · intro j _ hj
      unfold dueRecv
      rw [tallyAt_apply, if_neg]
      intro h
      exact hj (Sum.inr.inj (Sum.inr.inj (Prod.mk.inj (kcell_injective h.1)).2)).symm
    · intro h; exact absurd (Finset.mem_filter.mpr ⟨Finset.mem_univ i, Nat.zero_le _⟩) h
  unfold O₀
  simp only [Pi.add_apply, Finsupp.add_apply, hb, ho, Nat.add_zero]

omit [FloatOps F] in
theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

omit [FloatOps F] in
theorem credit_recv (c : Dev nD) (i : Fin 24) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i]
  simp only [Finset.sum_ite_eq', Finset.mem_univ, if_true]

omit [FloatOps F] in
theorem credits (c : Dev nD) : (Pipeline.launchCred O₀ c : sProp 𝕄) ⊢ creds c := by
  unfold Pipeline.launchCred creds
  rw [← credit_bar c]
  rw [bigSep_univ_at _ (SemLoc.reg barSem)]
  refine sep_mono_right ?_
  rw [show (bigSep Finset.univ fun i : Fin 24 => (cred (tallyAt (recvCell c i) () N) : sProp 𝕄))
      = bigSep (Finset.univ.map ⟨fun i : Fin 24 => csem (.inr (.inr i)), fun i j h => Sum.inr.inj (Sum.inr.inj (csem_injective h))⟩)
          (fun sm => cred (tallyOn ((c : Thread nD τ), sm) (launchCredit (Pipeline.owing O₀) 0 ((c : Thread nD τ), sm)))) from by
    rw [bigSep_map]
    exact bigSep_congr fun i _ => congrArg cred (credit_recv c i).symm]
  refine bigSep_subset ?_
  intro sm hsm
  obtain ⟨i, -, rfl⟩ := Finset.mem_map.mp hsm
  exact Finset.mem_erase.mpr ⟨fun h => absurd (csem_injective (a₁ := .inr (.inr i)) (a₂ := .inl ()) h) (by simp), Finset.mem_univ _⟩

/-! ## The run -/

theorem own_sem_facts : Pipeline.OwnSemFacts cfg0.spec osem := by decide

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (blocks m) c ∗ emp) := by
  iintro ⟨-, Hlev, Hcr, -, HG⟩
  ihave Hc := (credits (F := F) c) $$ Hcr
  imodintro
  unfold start G'
  isplitl
  · isplitl [HG]; · iexact HG
    isplitl [Hc] <;> iassumption
  · iempintro

theorem enter (c : Dev nD) :
    iprop(start (blocks m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems, unscopedSems]
  unfold Φ₁ closed scratch
  iintro ⟨⟨HB, HS, HV⟩, Hr⟩
  isplitl [HB]; · iexact HB
  isplitl [HS HV]
  · isplitl [HS] <;> iassumption
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_stage c _ (by fin_cases w <;> fin_cases s <;> decide)
    · show _ ⊢ MayWait _ _ () 0
      rw [MayWait_zero]; iintro -; iempintro

/-- What window `w`'s array holds after the run. -/
def finalA (c : Dev nD) (w : Fin cfg0.W) : Buf (Elt F) ((cfg0.win w).arr.view.loc (c : Thread nD τ)) := (dats m 0 c).arrAt w cfg0.N

/-- The memory after the run, window by window. -/
def Final (s : MemSt nD τ sig (Elt F)) : Prop :=
  ∀ (c : Dev nD) (w : Fin cfg0.W), s.mem ((cfg0.win w).arr.view.loc (c : Thread nD τ)) = finalA m c w

set_option maxRecDepth 40000 in
/-- For any float values, from any memory with zero counters: every fair run of the program on the mesh ends, with
    every window's array as computed and every semaphore back at zero. -/
theorem run_main : θ_run defs (onTc (τ := τ) (main (F := F))) ⟨m, fun _ => 0, ρ⟩ (fun r => Final m r.2 ∧ r.2.sem = fun _ => 0) :=
  Pipeline.θ_run_region_owing_glob_pf (fun p => (cfgs p).toPCfg) (fun p => (cfgs p).toPCfg_adm) (dats m) () cellOf_inj (0 : Fin 1)
    winFacts0.to₀ own_sem_facts (Pipeline.PreFacts.none _) EP defs₀ 𝒱₀ m ρ main
    (hmain := fun _ => rfl)
    (hbody := obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start (blocks m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Proof

end
-- ==== Proof.Frames.lean ====
/- What a run leaves: the arguments as they were, the result's array at each device's sum, and the three programs'
   frames. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Pipeline.Value

@[expose] public section

noncomputable section

namespace Cert.Proof

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## A window over a whole array -/

section Whole
omit [FloatOps F]

/-- Its block is the array. -/
theorem read_x (f : (main_arg0 : Ref sig .tc).ty.Contents (Elt F)) : (win0_0.blk t0_0).view.read (Elt F) f = f := by
  funext i; show f _ = f _; congr 1; funext a
  exact Fin.ext (by show 0 * _ + 1 * (i a).val = (i a).val; omega)
theorem read_wq (f : (main_arg1 : Ref sig .tc).ty.Contents (Elt F)) : (win0_1.blk t0_0).view.read (Elt F) f = f := by
  funext i; show f _ = f _; congr 1; funext a
  exact Fin.ext (by show 0 * _ + 1 * (i a).val = (i a).val; omega)
theorem read_wo (f : (main_arg4 : Ref sig .tc).ty.Contents (Elt F)) : (win0_2.blk t0_0).view.read (Elt F) f = f := by
  funext i; show f _ = f _; congr 1; funext a
  exact Fin.ext (by show 0 * _ + 1 * (i a).val = (i a).val; omega)
theorem read_wk (f : (main_arg2 : Ref sig .tc).ty.Contents (Elt F)) : (win0_3.blk t0_0).view.read (Elt F) f = f := by
  funext i; show f _ = f _; congr 1; funext a
  exact Fin.ext (by show 0 * _ + 1 * (i a).val = (i a).val; omega)
theorem read_wv (f : (main_arg3 : Ref sig .tc).ty.Contents (Elt F)) : (win0_4.blk t0_0).view.read (Elt F) f = f := by
  funext i; show f _ = f _; congr 1; funext a
  exact Fin.ext (by show 0 * _ + 1 * (i a).val = (i a).val; omega)
theorem read_out (f : (main_v1 : Ref sig .tc).ty.Contents (Elt F)) : (win0_5.blk t0_0).view.read (Elt F) f = f := by
  funext i; show f _ = f _; congr 1; funext a
  exact Fin.ext (by show 0 * _ + 1 * (i a).val = (i a).val; omega)

end Whole

/-! ## The arrays after the run -/

/-- The result's array ends at the device's sum. -/
theorem final_out (c : Dev nD) : finalA m c (5 : Fin 6) = (blocks m).out c := by
  refine (dats m 0 c).arrAt_eq_of_cover (5 : Fin 6) ((blocks m).out c) (fun t _ => ?_) (fun i => ⟨t0_0, flush0_5 _, ?_⟩)
  · rw [fin_N0 t]
    exact (read_out ((blocks m).out c)).symm
  · obtain ⟨x, hx⟩ : ∃ x, (win0_5.blk t0_0).view.emb x = i := ⟨i, by
      funext a; exact Fin.ext (by show 0 * _ + 1 * (i a).val = (i a).val; omega)⟩
    exact hx ▸ View.emb_mem_set _ _

/-- What every run of the kernel leaves in the argument and result arrays, for any float values. -/
theorem run_arrays : θ_run defs (onTc (τ := τ) (main (F := F))) ⟨m, fun _ => 0, ρ⟩ (fun r => (∀ c : Dev nD,
      r.2.mem ((c.tc : Thread nD τ).loc main_v1) = (blocks m).out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c (5 : Fin 6)).trans (final_out m c),
       (h.1 c (0 : Fin 6)).trans ((dats m 0 c).arrAt_in (0 : Fin 6) rfl _),
       (h.1 c (1 : Fin 6)).trans ((dats m 0 c).arrAt_in (1 : Fin 6) rfl _),
       (h.1 c (3 : Fin 6)).trans ((dats m 0 c).arrAt_in (3 : Fin 6) rfl _),
       (h.1 c (4 : Fin 6)).trans ((dats m 0 c).arrAt_in (4 : Fin 6) rfl _),
       (h.1 c (2 : Fin 6)).trans ((dats m 0 c).arrAt_in (2 : Fin 6) rfl _)⟩, h.2⟩)
    (run_main m ρ)

/-! ## The frames -/

/-- The frame's part of it. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_arrays m ρ)

/-- The two programs' bodies are one text. -/
theorem bodies_eq : Cert.Kernel.defs₀ (F := F) = defs₀ (F := F) := by
  unfold Cert.Kernel.defs₀ Cert.KernelIdeal.defs₀
  refine congrArg Defs.onTc ?_
  funext l
  match l with
  | ⟨0, _⟩ => funext ts; rfl
  | ⟨_ + 1, h⟩ => exact absurd h (Nat.not_lt.2 (Nat.le_add_left _ _))

/-- So are the pipelines over them. -/
theorem defs_eq : Cert.Kernel.defs (F := F) = defs (F := F) := congrArg (Pipeline.defs pcfgs) bodies_eq

set_option maxRecDepth 40000 in
/-- The kernel on bit patterns: its text is the ideal program's. -/
theorem frame_kernel : Cert.quiescent_Kernel (hKernel := Cert.Kernel.Gen.facts) := fun m ρ _ => by
  rw [defs_eq]
  exact run_frame (F := Bits) m ρ

/-- The ideal kernel. -/
theorem frame_ideal : Cert.quiescent_KernelIdeal (hKernelIdeal := Cert.KernelIdeal.Gen.facts) := fun m ρ _ => run_frame (F := Ideal) m ρ

/-- The reference: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Algebra.lean ====
/- Arithmetic on the extended reals that the values need: sums scaled by a real that is not negative, the reals
   among the extended reals, and one row of a softmax written with and without the row's maximum subtracted. -/
module

public import Idealize.ShloMosaic.PureOps.Ideal.Laws
public import Idealize.ShloMosaic.Lib.IdealHost

@[expose] public section

noncomputable section

namespace Cert.Proof

open Idealize.ShloMosaic
open scoped BigOperators

/-- An extended real that is a real. -/
def IsReal (a : EReal) : Prop := ∃ r : ℝ, a = (r : EReal)

theorem IsReal.add {a b : EReal} (ha : IsReal a) (hb : IsReal b) : IsReal (a + b) := by
  obtain ⟨r, rfl⟩ := ha
  obtain ⟨s, rfl⟩ := hb
  exact ⟨r + s, by rw [EReal.coe_add]⟩

theorem IsReal.mul {a b : EReal} (ha : IsReal a) (hb : IsReal b) : IsReal (a * b) := by
  obtain ⟨r, rfl⟩ := ha
  obtain ⟨s, rfl⟩ := hb
  exact ⟨r * s, by rw [EReal.coe_mul]⟩

theorem IsReal.zero : IsReal 0 := ⟨0, by simp⟩

theorem IsReal.sum {ι : Type} (s : Finset ι) (f : ι → EReal) (h : ∀ i, IsReal (f i)) : IsReal (∑ i ∈ s, f i) :=
  Finset.sum_induction f IsReal (fun _ _ => IsReal.add) IsReal.zero fun i _ => h i

/-- What is below plus infinity in absolute value is a real. -/
theorem IsReal.of_abs_lt {a : EReal} (h : max a (-a) < ⊤) : IsReal a := by
  induction a with
  | bot => simp at h
  | top => simp at h
  | coe r => exact ⟨r, rfl⟩

/-- The largest of some reals, starting from minus infinity, is a real where there is one. -/
theorem IsReal.fold_max {ι : Type} [DecidableEq ι] (s : Finset ι) (f : ι → EReal) (h : ∀ i, IsReal (f i)) (hs : s.Nonempty) :
    IsReal (s.fold max ⊥ f) := by
  induction hs using Finset.Nonempty.cons_induction with
  | singleton a =>
    rw [Finset.fold_singleton, max_eq_left bot_le]
    exact h a
  | cons a s ha _ ih =>
    rw [Finset.fold_cons]
    rcases max_choice (f a) (s.fold max ⊥ f) with e | e
    · rw [e]; exact h a
    · rw [e]; exact ih

/-- A real that is not negative goes through a sum from the right. -/
theorem sum_mul_real {ι : Type} (s : Finset ι) (f : ι → EReal) {e : ℝ} (he : 0 ≤ e) :
    (∑ i ∈ s, f i * (e : EReal)) = (∑ i ∈ s, f i) * (e : EReal) := by
  classical
  induction s using Finset.induction_on with
  | empty => simp
  | insert a s ha ih =>
    rw [Finset.sum_insert ha, Finset.sum_insert ha, ih,
      EReal.right_distrib_of_nonneg_of_ne_top (EReal.coe_nonneg.mpr he) (EReal.coe_ne_top e)]

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- One element of a softmax-weighted sum, the weights being the exponentials over their sum. -/
def rowVal {n : ℕ} (s v : Fin n → EReal) : EReal :=
  (∑ j, Ideal.exp (s j) * v j) * Ideal.div 1 (∑ j, Ideal.exp (s j))

/-- The same element by the running form over one block of keys: the sums of the block rescaled by the maximum `r`,
    each added to what was there before, which is zero. -/
theorem rowVal_running {n : ℕ} (hn : 0 < n) (s v : Fin n → EReal) (hs : ∀ j, IsReal (s j)) {r : EReal} (hr : IsReal r) :
    Ideal.div (0 * Ideal.exp (⊥ - r) + ∑ j, v j * Ideal.exp (s j - r))
      (0 * Ideal.exp (⊥ - r) + (0 + ∑ j, Ideal.exp (s j - r))) = rowVal s v := by
  obtain ⟨r, rfl⟩ := hr
  choose t ht using hs
  obtain rfl : s = fun j => (t j : EReal) := funext ht
  have hexp : ∀ j, Ideal.exp ((t j : EReal) - (r : EReal)) = ((Real.exp (t j) : ℝ) : EReal) * ((Real.exp (-r) : ℝ) : EReal) := by
    intro j
    rw [← EReal.coe_sub, Ideal.exp_coe, ← EReal.coe_mul, ← Real.exp_add, sub_eq_add_neg]
  have hbot : Ideal.exp (⊥ - (r : EReal)) = 0 := by
    rw [EReal.bot_sub, Ideal.exp_bot]
  have hpos : 0 < ∑ j, Real.exp (t j) := by
    haveI : Nonempty (Fin n) := ⟨⟨0, hn⟩⟩
    exact Finset.sum_pos (fun j _ => Real.exp_pos _) Finset.univ_nonempty
  have he : 0 < Real.exp (-r) := Real.exp_pos _
  have hnum : (∑ j, v j * Ideal.exp ((t j : EReal) - (r : EReal)))
      = (∑ j, Ideal.exp (t j : EReal) * v j) * ((Real.exp (-r) : ℝ) : EReal) := by
    rw [← sum_mul_real _ _ he.le]
    refine Finset.sum_congr rfl fun j _ => ?_
    rw [hexp, Ideal.exp_coe, ← mul_assoc, mul_comm (v j)]
  have hden : (∑ j, Ideal.exp ((t j : EReal) - (r : EReal))) = (((∑ j, Real.exp (t j)) * Real.exp (-r) : ℝ) : EReal) := by
    rw [EReal.coe_mul, ← sum_coe, ← sum_mul_real _ _ he.le]
    exact Finset.sum_congr rfl fun j _ => hexp j
  have hsum : (∑ j, Ideal.exp (t j : EReal)) = ((∑ j, Real.exp (t j) : ℝ) : EReal) := by
    rw [← sum_coe]
    exact Finset.sum_congr rfl fun j _ => Ideal.exp_coe _
  unfold rowVal
  rw [hbot, mul_zero, zero_add, zero_add, zero_add, hnum, hden, hsum,
    Ideal.div_coe (mul_pos hpos he).ne', Ideal.div_coe hpos.ne', one_mul, mul_assoc, ← EReal.coe_mul]
  congr 2
  field_simp

/-- One element of a head's output, from the head's columns of the three projections. -/
def headVal (q k v : Fin 128 → Fin 64 → EReal) (t : Fin 128) (d : Fin 64) : EReal :=
  rowVal (fun j : Fin 128 => (∑ e : Fin 64, q t e * k j e) * (((1 : ℝ) / 8 : ℝ) : EReal)) (fun j => v j d)

/-- The f32 patterns of the two programs' constants. -/
theorem ofBits_eighth_f32 : Ideal.ofBits .f32 0x3E000000#32 = (((1 : ℝ) / 8 : ℝ) : EReal) := by
  simp [Ideal.ofBits, Ideal.ieee, -EReal.coe_mul]; norm_num

theorem ofBits_top_f32 : Ideal.ofBits .f32 0x7F800000#32 = ⊤ := by
  simp [Ideal.ofBits, Ideal.ieee]

theorem ofBits_bot_f32 : Ideal.ofBits .f32 0xFF800000#32 = ⊥ := by
  simp [Ideal.ofBits, Ideal.ieee]

end Cert.Proof

end
-- ==== Proof.KernelValue.lean ====
/- The kernel's values read element by element on the extended reals: each device's projections and heads, its
   partial product, and the sum the three rounds of exchange leave on every device. -/
module

public import proofs.«01_k».proof.Proof.Values
public import proofs.«01_k».proof.Proof.Algebra
public import Idealize.ShloMosaic.Lib.MatmulPlain
public import Idealize.ShloMosaic.Lib.ValueIdx
public import Idealize.ShloMosaic.Lib.Pipeline.Value

@[expose] public section

noncomputable section

namespace Cert.Proof

open Idealize.ShloMosaic Idealize.ShloMosaic.TcCoe Idealize.ShloMosaic.ValueIdx
open Cert.KernelIdeal Cert.KernelIdeal.Gen
open scoped BigOperators

/-! ## Shape casts between the ranks used -/

section Casts
variable {α : Type}

theorem cast_drop1 {a b : ℕ} (x : (⟨3, ![1, a, b]⟩ : Shape).Idx → α) (h : (⟨3, ![1, a, b]⟩ : Shape).ShapeCasts ⟨2, ![a, b]⟩) (i : Fin a) (j : Fin b) :
    shapeCast ⟨2, ![a, b]⟩ x h (ix2 i j) = x (ix3 (0 : Fin 1) i j) := by
  refine shapeCast_apply x h _ _ ?_
  rw [Shape.rowMajor_val_three, Shape.rowMajor_val_two]
  show (0 * a + i.val) * b + j.val = i.val * b + j.val
  rw [Nat.zero_mul, Nat.zero_add]

theorem cast_add1 {a b : ℕ} (x : (⟨2, ![a, b]⟩ : Shape).Idx → α) (h : (⟨2, ![a, b]⟩ : Shape).ShapeCasts ⟨3, ![1, a, b]⟩) (z : Fin 1) (i : Fin a) (j : Fin b) :
    shapeCast ⟨3, ![1, a, b]⟩ x h (ix3 z i j) = x (ix2 i j) := by
  obtain rfl : z = 0 := Subsingleton.elim _ _
  refine shapeCast_apply x h _ _ ?_
  rw [Shape.rowMajor_val_three, Shape.rowMajor_val_two]
  show i.val * b + j.val = (0 * a + i.val) * b + j.val
  rw [Nat.zero_mul, Nat.zero_add]

theorem cast_drop3 {a b : ℕ} (x : (⟨5, ![1, 1, 1, a, b]⟩ : Shape).Idx → α) (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) := by
  refine shapeCast_apply x h _ _ ?_
  rw [Shape.rowMajor_val_five, Shape.rowMajor_val_two]
  show (((0 * 1 + 0) * 1 + 0) * a + i.val) * b + j.val = i.val * b + j.val
  simp

theorem cast_add3 {a b : ℕ} (x : (⟨2, ![a, b]⟩ : Shape).Idx → α) (h : (⟨2, ![a, b]⟩ : Shape).ShapeCasts ⟨5, ![1, 1, 1, a, b]⟩) (i : Fin a) (j : Fin b) :
    shapeCast ⟨5, ![1, 1, 1, a, b]⟩ x h (ix5 (0 : Fin 1) (0 : Fin 1) (0 : Fin 1) i j) = x (ix2 i j) := by
  refine shapeCast_apply x h _ _ ?_
  rw [Shape.rowMajor_val_five, Shape.rowMajor_val_two]
  show i.val * b + j.val = (((0 * 1 + 0) * 1 + 0) * a + i.val) * b + j.val
  simp

theorem cast_same {s : Shape} (x : s.Idx → α) (h : s.ShapeCasts s) : shapeCast s x h = x :=
  funext fun i => shapeCast_apply x h i i rfl

theorem cast_col {a : ℕ} (x : (⟨1, ![a]⟩ : Shape).Idx → α) (h : (⟨1, ![a]⟩ : Shape).ShapeCasts ⟨2, ![a, 1]⟩) (i : Fin a) (j : Fin 1) :
    shapeCast ⟨2, ![a, 1]⟩ x h (ix2 i j) = x (ix1 i) := by
  obtain rfl : j = 0 := Subsingleton.elim _ _
  refine shapeCast_apply x h _ _ ?_
  rw [Shape.rowMajor_val_one, Shape.rowMajor_val_two]
  show i.val = i.val * 1 + 0
  omega

end Casts

/-! ## The products -/

theorem dot_rows : dot_S128x512_S512x512_S128x512_1_0_0_1_n_n = DotDims.plain 128 512 512 := rfl
theorem dot_scores : dot_S128x64_S128x64_S128x128_1_1_0_0_n_n = DotDims.transposedRhs 128 64 128 := rfl
theorem dot_mix : dot_S128x128_S128x64_S128x64_1_0_0_1_n_n = DotDims.plain 128 128 64 := rfl

theorem zero_splat (s : Shape) (i : s.Idx) : constant (F := Ideal) s .f32 0x00000000#32 i = 0 := Ideal.ofBits_zero_f32

/-- One row of a batch times one column of the weights. -/
def dotRow (x : Vec Ideal S1x128x512 .f32) (w : Vec Ideal S512x512 .f32) (t : Fin 128) (n : Fin 512) : EReal :=
  ∑ k : Fin 512, x (ix3 (0 : Fin 1) t k) * w (ix2 k n)

theorem mm_rows (y : FVec Ideal S128x512 .f32) (w : Vec Ideal S512x512 .f32) (t : Fin 128) (n : Fin 512) :
    matmul (F := Ideal) (φ₁ := .f32) (φ₂ := .f32) dot_S128x512_S512x512_S128x512_1_0_0_1_n_n none y w (constant S128x512 .f32 0x00000000#32) (ix2 t n)
      = ∑ k : Fin 512, y (ix2 t k) * w (ix2 k n) := by
  rw [dot_rows]
  refine (Ideal.matmul_plain_apply none y w _ t n).trans ?_
  rw [zero_splat, zero_add]

theorem pay3_apply (x : Vec Ideal S1x128x512 .f32) (w : Vec Ideal S512x512 .f32) (t : Fin 128) (n : Fin 512) :
    k0_pay3 x w (ix3 (0 : Fin 1) t n) = dotRow x w t n * (((1 : ℝ) / 8 : ℝ) : EReal) := by
  unfold k0_pay3 k0_pay2
  refine (cast_add1 _ _ _ t n).trans ?_
  rw [cast_same]
  show _ * Ideal.ofBits .f32 0x3E000000#32 = _
  rw [ofBits_eighth_f32]
  refine congrArg (· * _) ((mm_rows _ w t n).trans (Finset.sum_congr rfl fun k _ => ?_))
  rw [cast_drop1]

theorem pay5_apply (x : Vec Ideal S1x128x512 .f32) (w : Vec Ideal S512x512 .f32) (t : Fin 128) (n : Fin 512) :
    k0_pay5 (k0_pay4 x w) (ix3 (0 : Fin 1) t n) = dotRow x w t n := by
  unfold k0_pay5 k0_pay4 k0_pay2
  refine (cast_add1 _ _ _ t n).trans ?_
  rw [cast_same]
  refine (mm_rows _ w t n).trans (Finset.sum_congr rfl fun k _ => ?_)
  rw [cast_drop1]

theorem pay6_apply (x : Vec Ideal S1x128x512 .f32) (w : Vec Ideal S512x512 .f32) (t : Fin 128) (n : Fin 512) :
    k0_pay6 (k0_pay2 x) w (ix3 (0 : Fin 1) t n) = dotRow x w t n := by
  unfold k0_pay6 k0_pay2
  refine (cast_add1 _ _ _ t n).trans ?_
  rw [cast_same]
  refine (mm_rows _ w t n).trans (Finset.sum_congr rfl fun k _ => ?_)
  rw [cast_drop1]

/-! ## One head -/

theorem pay7_apply (q k v : Vec Ideal S1x128x64 .bf16) (t : Fin 128) (d : Fin 64) :
    k0_pay7 q k v (ix2 t d)
      = rowVal (fun j : Fin 128 => ∑ e : Fin 64, q (ix3 (0 : Fin 1) t e) * k (ix3 (0 : Fin 1) j e)) (fun j => v (ix3 (0 : Fin 1) j d)) := by
  have hs : ∀ j : Fin 128, matmul (F := Ideal) (φ₁ := .bf16) (φ₂ := .bf16) dot_S128x64_S128x64_S128x128_1_1_0_0_n_n none
      (shapeCast S128x64 q shapeCasts_S1x128x64_S128x64) (shapeCast S128x64 k shapeCasts_S1x128x64_S128x64)
      (constant S128x128 .f32 0x00000000#32) (ix2 t j) = ∑ e : Fin 64, q (ix3 (0 : Fin 1) t e) * k (ix3 (0 : Fin 1) j e) := by
    intro j
    rw [dot_scores]
    refine (Ideal.matmul_transposedRhs_apply none _ _ _ t j).trans ?_
    rw [zero_splat, zero_add]
    refine Finset.sum_congr rfl fun e _ => ?_
    rw [cast_drop1, cast_drop1]
  unfold k0_pay7
  dsimp only
  rw [cast_same]
  generalize matmul (F := Ideal) (φ₁ := .bf16) (φ₂ := .bf16) dot_S128x64_S128x64_S128x128_1_1_0_0_n_n none
      (shapeCast S128x64 q shapeCasts_S1x128x64_S128x64) (shapeCast S128x64 k shapeCasts_S1x128x64_S128x64)
      (constant S128x128 .f32 0x00000000#32) = s at hs ⊢
  rw [mulf_apply]
  unfold rowVal
  refine congrArg₂ (· * ·) ?_ ?_
  · rw [dot_mix]
    refine (Ideal.matmul_plain_apply none _ _ _ t d).trans ?_
    rw [zero_splat, zero_add]
    refine Finset.sum_congr rfl fun j _ => ?_
    rw [cast_drop1]
    beta_reduce
    rw [← hs j]
    rfl
  · refine (broadcastTo_apply _ broadcasts_S128x1_S128x64 (ix2 t d) (ix2 t (0 : Fin 1)) ?_).trans ?_
    · intro a
      match a with
      | ⟨0, _⟩ => rfl
      | ⟨1, _⟩ => rfl
    · rw [divf_apply]
      show Ideal.div (Ideal.ofBits .f32 0x3F800000#32) _ = _
      rw [Ideal.ofBits_one_f32]
      refine congrArg (Ideal.div 1) ((cast_col _ _ t 0).trans ?_)
      refine (Ideal.multiReduction_add_single _ _ reduces_S128x128_S128 (.inl rfl) rfl (ix1 t)).trans ?_
      refine Finset.sum_congr rfl fun j _ => ?_
      have : reduces_S128x128_S128.lift (ix1 t) j = ix2 t j := by
        funext a
        match a with
        | ⟨0, _⟩ => rfl
        | ⟨1, _⟩ => rfl
      rw [this]
      exact congrArg Ideal.exp (hs j)

/-- Column `e` of head `h` of a device. -/
def headCol (h : Fin 8) (e : Fin 64) : Fin 512 := ⟨64 * h.val + e.val, by omega⟩

theorem headIn_apply (s : Vec Ideal S1x128x512 .bf16) (h : Fin 8) (t : Fin 128) (e : Fin 64) :
    headIn s h (ix3 (0 : Fin 1) t e) = s (ix3 (0 : Fin 1) t (headCol h e)) := by
  unfold headIn headCol
  congr 1; funext a
  match a with
  | ⟨0, _⟩ => rfl
  | ⟨1, _⟩ => rfl
  | ⟨2, _⟩ => rfl

theorem attnOf_apply (x : Vec Ideal S1x128x512 .f32) (wq wk wv : Vec Ideal S512x512 .f32) (t : Fin 128) (h : Fin 8) (d : Fin 64) :
    attnOf x wq wk wv (ix2 t (headCol h d))
      = headVal (fun t e => dotRow x wq t (headCol h e)) (fun t e => dotRow x wk t (headCol h e)) (fun t e => dotRow x wv t (headCol h e)) t d := by
  have hh : colHead (ix2 t (headCol h d)) = h := Fin.ext (by show (64 * h.val + d.val) / 64 = h.val; omega)
  have hi : colIn (ix2 t (headCol h d)) = ix2 t d := by
    funext a
    match a with
    | ⟨0, _⟩ => rfl
    | ⟨1, _⟩ => exact Fin.ext (by show (64 * h.val + d.val) % 64 = d.val; omega)
  unfold attnOf headsOut
  rw [hh, hi, pay7_apply]
  unfold headVal
  refine congrArg₂ rowVal (funext fun j => ?_) (funext fun j => ?_)
  · rw [← sum_mul_real _ _ (by norm_num)]
    refine Finset.sum_congr rfl fun e _ => ?_
    rw [headIn_apply, headIn_apply, pay3_apply, pay5_apply, mul_right_comm]
  · rw [headIn_apply, pay6_apply]

variable (B : Blocks Ideal)

theorem part_apply (c : Dev nD) (b : Fin 2) (t : Fin 128) (n : Fin 512) :
    B.part c b (ix2 t n) = ∑ k : Fin 512, B.attn c b (ix2 t k) * B.wo c (ix2 k n) := by
  unfold Blocks.part k0_pay19
  rw [cast_same]
  exact mm_rows _ _ t n

/-! ## The exchange -/

/-- What `r` rounds of pairwise sums leave on device `c`. -/
def reduced (f : Dev nD → EReal) : Nat → Dev nD → EReal
  | 0, c => f c
  | r + 1, c => reduced f r c + reduced f r (peer r c)

/-- Row `i` of chunk `q`, in its batch. -/
def chunkRow (q : Fin 8) (i : Fin 32) : Fin 128 := ⟨32 * (qj q).val + i.val, by have := (qj q).isLt; omega⟩

theorem st_apply (r : Nat) (c : Dev nD) (q : Fin 8) (i : Fin 32) (n : Fin 512) :
    (B.st r c q).1 (ix3 (0 : Fin 1) i n) = reduced (fun c => B.part c (qb q) (ix2 (chunkRow q i) n)) r c
      ∧ (B.st r c q).2 (ix5 (0 : Fin 1) (0 : Fin 1) (0 : Fin 1) i n) = reduced (fun c => B.part c (qb q) (ix2 (chunkRow q i) n)) r c := by
  induction r generalizing c with
  | zero =>
    constructor
    · show chunkOf (k0_pay20 (B.attn c (qb q)) (B.wo c)) (qj q) (ix3 (0 : Fin 1) i n) = B.part c (qb q) (ix2 (chunkRow q i) n)
      refine Eq.trans ?_ (cast_add1 (B.part c (qb q)) shapeCasts_S128x512_S1x128x512 0 (chunkRow q i) n)
      unfold chunkOf
      show k0_pay20 (B.attn c (qb q)) (B.wo c) _ = k0_pay20 (B.attn c (qb q)) (B.wo c) _
      congr 1; funext a
      match a with
      | ⟨0, _⟩ => rfl
      | ⟨1, _⟩ => rfl
      | ⟨2, _⟩ => rfl
    · show chunkPay (qj q) (B.part c (qb q)) _ = B.part c (qb q) (ix2 (chunkRow q i) n)
      unfold chunkPay
      refine (cast_add3 _ _ i n).trans ?_
      refine extractStridedSlice_apply _ (B.part c (qb q)) (chunk_slices (qj q)) (ix2 i n) (ix2 (chunkRow q i) n) fun a => ?_
      match a with
      | ⟨0, _⟩ => rfl
      | ⟨1, _⟩ => exact (Nat.zero_add _).symm
  | succ r ih =>
    have hsum : ∀ v w, v (ix3 (0 : Fin 1) i n) = reduced (fun c => B.part c (qb q) (ix2 (chunkRow q i) n)) r c →
        w (ix5 (0 : Fin 1) (0 : Fin 1) (0 : Fin 1) i n) = reduced (fun c => B.part c (qb q) (ix2 (chunkRow q i) n)) r (peer r c) →
        k0_pay57 (F := Ideal) v w (ix2 i n) = reduced (fun c => B.part c (qb q) (ix2 (chunkRow q i) n)) (r + 1) c := by
      intro v w hv hw
      unfold k0_pay57
      rw [addf_apply, extf_apply, cast_drop1, cast_drop3, hv, hw]
      rfl
    have h := hsum _ _ (ih c).1 (ih (peer r c)).2
    exact ⟨(cast_add1 _ _ 0 i n).trans h, (cast_add3 _ _ i n).trans h⟩

theorem peer_first (c : Dev nD) : peer 0 c = (![1, 0, 3, 2, 5, 4, 7, 6] : Fin 8 → Fin 8) c := by revert c; decide
theorem peer_second (c : Dev nD) : peer 1 c = (![3, 2, 1, 0, 7, 6, 5, 4] : Fin 8 → Fin 8) c := by revert c; decide
theorem peer_third (c : Dev nD) : peer 2 c = (![4, 5, 6, 7, 0, 1, 2, 3] : Fin 8 → Fin 8) c := by revert c; decide

/-- Three rounds along the three axes of the cube of devices reach every device once. -/
theorem reduced_three (g : Dev nD → EReal) (c : Dev nD) : reduced g 3 c = ∑ d : Dev nD, g d := by
  rw [show (∑ d : Dev nD, g d) = ∑ d : Fin 8, g d from rfl, Fin.sum_univ_eight]
  simp only [reduced, peer_first, peer_second, peer_third]
  match c with
  | ⟨0, _⟩ => show ((g 0 + g 1) + (g 3 + g 2)) + ((g 4 + g 5) + (g 7 + g 6)) = _; abel
  | ⟨1, _⟩ => show ((g 1 + g 0) + (g 2 + g 3)) + ((g 5 + g 4) + (g 6 + g 7)) = _; abel
  | ⟨2, _⟩ => show ((g 2 + g 3) + (g 1 + g 0)) + ((g 6 + g 7) + (g 5 + g 4)) = _; abel
  | ⟨3, _⟩ => show ((g 3 + g 2) + (g 0 + g 1)) + ((g 7 + g 6) + (g 4 + g 5)) = _; abel
  | ⟨4, _⟩ => show ((g 4 + g 5) + (g 7 + g 6)) + ((g 0 + g 1) + (g 3 + g 2)) = _; abel
  | ⟨5, _⟩ => show ((g 5 + g 4) + (g 6 + g 7)) + ((g 1 + g 0) + (g 2 + g 3)) = _; abel
  | ⟨6, _⟩ => show ((g 6 + g 7) + (g 5 + g 4)) + ((g 2 + g 3) + (g 1 + g 0)) = _; abel
  | ⟨7, _⟩ => show ((g 7 + g 6) + (g 4 + g 5)) + ((g 3 + g 2) + (g 0 + g 1)) = _; abel

/-- **The kernel's result**: every device holds the sum of all devices' partial products. -/
theorem out_apply (c : Dev nD) (b : Fin 2) (t : Fin 128) (n : Fin 512) :
    B.out c (ix3 b t n) = ∑ d : Dev nD, ∑ k : Fin 512, B.attn d b (ix2 t k) * B.wo d (ix2 k n) := by
  have hin : outIn (ix3 b t n) = ix3 (0 : Fin 1) (⟨t.val % 32, Nat.mod_lt _ (by decide)⟩ : Fin 32) n := by
    funext a
    match a with
    | ⟨0, _⟩ => rfl
    | ⟨1, _⟩ => rfl
    | ⟨2, _⟩ => rfl
  have hb : qb (outChunk (ix3 b t n)) = b := Fin.ext (by show (4 * b.val + t.val / 32) / 4 = b.val; omega)
  have ht : chunkRow (outChunk (ix3 b t n)) (⟨t.val % 32, Nat.mod_lt _ (by decide)⟩ : Fin 32) = t :=
    Fin.ext (by show 32 * ((4 * b.val + t.val / 32) % 4) + t.val % 32 = t.val; omega)
  unfold Blocks.out
  rw [hin, (st_apply B 3 c _ _ n).1, reduced_three, hb, ht]
  exact Finset.sum_congr rfl fun d _ => part_apply B d b t n

end Cert.Proof

end
-- ==== Proof.ReferenceValue.lean ====
/- The reference's values read element by element on the extended reals: each head's output is the softmax-weighted
   sum of the values, and the result is the product of all heads' outputs with the output weights. -/
module

public import proofs.«01_k».proof.Proof.Gen.ReferenceIdeal.Read
public import proofs.«01_k».proof.Proof.Algebra
public import Idealize.ShloMosaic.Lib.KernelVsHost
public import Idealize.ShloMosaic.Lib.ValueIdx

@[expose] public section

noncomputable section

namespace Cert.Proof

open Idealize.ShloMosaic Idealize.ShloMosaic.TcCoe Idealize.ShloMosaic.ValueIdx
open Cert.ReferenceIdeal Cert.ReferenceIdeal.Gen Cert.ReferenceIdeal.Read
open scoped BigOperators

/-- The reference's input and a projection's weights. -/
abbrev X : Type := (⟨S2x128x512, .f32⟩ : BufTy).Contents (Elt Ideal)
abbrev W : Type := (⟨S512x4096, .f32⟩ : BufTy).Contents (Elt Ideal)

/-- Column `e` of head `h`, over all heads. -/
def wideCol (h e : Fin 64) : Fin 4096 := ⟨64 * h.val + e.val, by omega⟩

/-- One row of a batch times one column of the weights. -/
def wideRow (x : X) (w : W) (b : Fin 2) (t : Fin 128) (n : Fin 4096) : EReal :=
  ∑ k : Fin 512, x (ix3 b t k) * w (ix2 k n)

/-! ## Where each operation reads its operands -/

section Indices

theorem lidx_main_v0_at (b : Fin 2) (t : Fin 128) (n : Fin 4096) (k : Fin 512) : lidx_main_v0 (ix3 b t n) k = ix3 b t k := by
  funext a
  match a with
  | ⟨0, _⟩ => rfl
  | ⟨1, _⟩ => rfl
  | ⟨2, _⟩ => rfl

theorem ridx_main_v0_at (b : Fin 2) (t : Fin 128) (n : Fin 4096) (k : Fin 512) : ridx_main_v0 (ix3 b t n) k = ix2 k n := by
  funext a
  match a with
  | ⟨0, _⟩ => rfl
  | ⟨1, _⟩ => rfl

theorem lidx_main_v2_at (b : Fin 2) (t : Fin 128) (n : Fin 4096) (k : Fin 512) : lidx_main_v2 (ix3 b t n) k = ix3 b t k := by
  funext a
  match a with
  | ⟨0, _⟩ => rfl
  | ⟨1, _⟩ => rfl
  | ⟨2, _⟩ => rfl

theorem ridx_main_v2_at (b : Fin 2) (t : Fin 128) (n : Fin 4096) (k : Fin 512) : ridx_main_v2 (ix3 b t n) k = ix2 k n := by
  funext a
  match a with
  | ⟨0, _⟩ => rfl
  | ⟨1, _⟩ => rfl

theorem lidx_main_v4_at (b : Fin 2) (t : Fin 128) (n : Fin 4096) (k : Fin 512) : lidx_main_v4 (ix3 b t n) k = ix3 b t k := by
  funext a
  match a with
  | ⟨0, _⟩ => rfl
  | ⟨1, _⟩ => rfl
  | ⟨2, _⟩ => rfl

theorem ridx_main_v4_at (b : Fin 2) (t : Fin 128) (n : Fin 4096) (k : Fin 512) : ridx_main_v4 (ix3 b t n) k = ix2 k n := by
  funext a
  match a with
  | ⟨0, _⟩ => rfl
  | ⟨1, _⟩ => rfl

theorem idx_main_v1_at (b : Fin 2) (t : Fin 128) (h e : Fin 64) : idx_main_v1 (ix4 b t h e) = ix3 b t (wideCol h e) := by
  funext a
  match a with
  | ⟨0, _⟩ => exact Fin.ext (by show (((b.val * 128 + t.val) * 64 + h.val) * 64 + e.val) / 524288 = b.val; omega)
  | ⟨1, _⟩ => exact Fin.ext (by show (((b.val * 128 + t.val) * 64 + h.val) * 64 + e.val) / 4096 % 128 = t.val; omega)
  | ⟨2, _⟩ => exact Fin.ext (by show (((b.val * 128 + t.val) * 64 + h.val) * 64 + e.val) % 4096 = 64 * h.val + e.val; omega)

theorem idx_main_v3_at (b : Fin 2) (t : Fin 128) (h e : Fin 64) : idx_main_v3 (ix4 b t h e) = ix3 b t (wideCol h e) := by
  funext a
  match a with
  | ⟨0, _⟩ => exact Fin.ext (by show (((b.val * 128 + t.val) * 64 + h.val) * 64 + e.val) / 524288 = b.val; omega)
  | ⟨1, _⟩ => exact Fin.ext (by show (((b.val * 128 + t.val) * 64 + h.val) * 64 + e.val) / 4096 % 128 = t.val; omega)
  | ⟨2, _⟩ => exact Fin.ext (by show (((b.val * 128 + t.val) * 64 + h.val) * 64 + e.val) % 4096 = 64 * h.val + e.val; omega)

theorem idx_main_v5_at (b : Fin 2) (t : Fin 128) (h e : Fin 64) : idx_main_v5 (ix4 b t h e) = ix3 b t (wideCol h e) := by
  funext a
  match a with
  | ⟨0, _⟩ => exact Fin.ext (by show (((b.val * 128 + t.val) * 64 + h.val) * 64 + e.val) / 524288 = b.val; omega)
  | ⟨1, _⟩ => exact Fin.ext (by show (((b.val * 128 + t.val) * 64 + h.val) * 64 + e.val) / 4096 % 128 = t.val; omega)
  | ⟨2, _⟩ => exact Fin.ext (by show (((b.val * 128 + t.val) * 64 + h.val) * 64 + e.val) % 4096 = 64 * h.val + e.val; omega)

theorem lidx_main_v9_at (b : Fin 2) (h : Fin 64) (t j : Fin 128) (e : Fin 64) : lidx_main_v9 (ix4 b h t j) e = ix4 b t h e := by
  funext a
  match a with
  | ⟨0, _⟩ => rfl
  | ⟨1, _⟩ => rfl
  | ⟨2, _⟩ => rfl
  | ⟨3, _⟩ => rfl

theorem ridx_main_v9_at (b : Fin 2) (h : Fin 64) (t j : Fin 128) (e : Fin 64) : ridx_main_v9 (ix4 b h t j) e = ix4 b j h e := by
  funext a
  match a with
  | ⟨0, _⟩ => rfl
  | ⟨1, _⟩ => rfl
  | ⟨2, _⟩ => rfl
  | ⟨3, _⟩ => rfl

theorem idx_main_v13_at (b : Fin 2) (h : Fin 64) (t : Fin 128) : idx_main_v13 (ix4 b h t (0 : Fin 1)) = ix3 b h t := by
  funext a
  match a with
  | ⟨0, _⟩ => rfl
  | ⟨1, _⟩ => rfl
  | ⟨2, _⟩ => rfl

theorem idx_main_v17_at (b : Fin 2) (h : Fin 64) (t j : Fin 128) : idx_main_v17 (ix4 b h t j) = ix4 b h t (0 : Fin 1) := by
  funext a
  match a with
  | ⟨0, _⟩ => rfl
  | ⟨1, _⟩ => rfl
  | ⟨2, _⟩ => rfl
  | ⟨3, _⟩ => rfl

theorem idx_main_v21_at (b : Fin 2) (h : Fin 64) (t j : Fin 128) : idx_main_v21 (ix3 b h t) j = ix4 b h t j := by
  funext a
  match a with
  | ⟨0, _⟩ => rfl
  | ⟨1, _⟩ => rfl
  | ⟨2, _⟩ => rfl
  | ⟨3, _⟩ => rfl

theorem idx_main_v22_at (b : Fin 2) (h : Fin 64) (t : Fin 128) : idx_main_v22 (ix4 b h t (0 : Fin 1)) = ix3 b h t := by
  funext a
  match a with
  | ⟨0, _⟩ => rfl
  | ⟨1, _⟩ => rfl
  | ⟨2, _⟩ => rfl

theorem idx_main_v24_at (b : Fin 2) (h : Fin 64) (t : Fin 128) : idx_main_v24 (ix4 b t h (0 : Fin 1)) = ix4 b h t (0 : Fin 1) := by
  funext a
  match a with
  | ⟨0, _⟩ => rfl
  | ⟨1, _⟩ => rfl
  | ⟨2, _⟩ => rfl
  | ⟨3, _⟩ => rfl

theorem idx_main_v30_at (b : Fin 2) (h : Fin 64) (t : Fin 128) : idx_main_v30 (ix4 b t h (0 : Fin 1)) = ix4 b h t (0 : Fin 1) := by
  funext a
  match a with
  | ⟨0, _⟩ => rfl
  | ⟨1, _⟩ => rfl
  | ⟨2, _⟩ => rfl
  | ⟨3, _⟩ => rfl

theorem idx_main_v25_at (b : Fin 2) (h : Fin 64) (t : Fin 128) (d : Fin 64) : idx_main_v25 (ix4 b t h d) = ix4 b t h (0 : Fin 1) := by
  funext a
  match a with
  | ⟨0, _⟩ => rfl
  | ⟨1, _⟩ => rfl
  | ⟨2, _⟩ => rfl
  | ⟨3, _⟩ => rfl

theorem idx_main_v31_at (b : Fin 2) (h : Fin 64) (t : Fin 128) (d : Fin 64) : idx_main_v31 (ix4 b t h d) = ix4 b t h (0 : Fin 1) := by
  funext a
  match a with
  | ⟨0, _⟩ => rfl
  | ⟨1, _⟩ => rfl
  | ⟨2, _⟩ => rfl
  | ⟨3, _⟩ => rfl

theorem lidx_main_v27_at (b : Fin 2) (h d : Fin 64) (t j : Fin 128) : lidx_main_v27 (ix4 b h d t) j = ix4 b j h d := by
  funext a
  match a with
  | ⟨0, _⟩ => rfl
  | ⟨1, _⟩ => rfl
  | ⟨2, _⟩ => rfl
  | ⟨3, _⟩ => rfl

theorem ridx_main_v27_at (b : Fin 2) (h d : Fin 64) (t j : Fin 128) : ridx_main_v27 (ix4 b h d t) j = ix4 b h t j := by
  funext a
  match a with
  | ⟨0, _⟩ => rfl
  | ⟨1, _⟩ => rfl
  | ⟨2, _⟩ => rfl
  | ⟨3, _⟩ => rfl

theorem idx_main_v28_at (b : Fin 2) (h d : Fin 64) (t : Fin 128) : idx_main_v28 (ix4 b t h d) = ix4 b h d t := by
  funext a
  match a with
  | ⟨0, _⟩ => rfl
  | ⟨1, _⟩ => rfl
  | ⟨2, _⟩ => rfl
  | ⟨3, _⟩ => rfl

theorem idx_main_v33_at (b : Fin 2) (t : Fin 128) (h d : Fin 64) : idx_main_v33 (ix3 b t (wideCol h d)) = ix4 b t h d := by
  funext a
  match a with
  | ⟨0, _⟩ => exact Fin.ext (by show ((b.val * 128 + t.val) * 4096 + (64 * h.val + d.val)) / 524288 = b.val; omega)
  | ⟨1, _⟩ => exact Fin.ext (by show ((b.val * 128 + t.val) * 4096 + (64 * h.val + d.val)) / 4096 % 128 = t.val; omega)
  | ⟨2, _⟩ => exact Fin.ext (by show ((b.val * 128 + t.val) * 4096 + (64 * h.val + d.val)) / 64 % 64 = h.val; omega)
  | ⟨3, _⟩ => exact Fin.ext (by show ((b.val * 128 + t.val) * 4096 + (64 * h.val + d.val)) % 64 = d.val; omega)

theorem lidx_main_v34_at (b : Fin 2) (t : Fin 128) (n : Fin 512) (k : Fin 4096) : lidx_main_v34 (ix3 b t n) k = ix3 b t k := by
  funext a
  match a with
  | ⟨0, _⟩ => rfl
  | ⟨1, _⟩ => rfl
  | ⟨2, _⟩ => rfl

theorem ridx_main_v34_at (b : Fin 2) (t : Fin 128) (n : Fin 512) (k : Fin 4096) : ridx_main_v34 (ix3 b t n) k = ix2 k n := by
  funext a
  match a with
  | ⟨0, _⟩ => rfl
  | ⟨1, _⟩ => rfl

end Indices

/-! ## The projections and the scores -/

theorem proj0_apply (x : X) (w : W) (b : Fin 2) (t : Fin 128) (h e : Fin 64) :
    val_main_v1 (F := Ideal) x w (ix4 b t h e) = wideRow x w b t (wideCol h e) := by
  rw [val_main_v1_apply, idx_main_v1_at, val_main_v0_apply]
  refine Finset.sum_congr rfl fun k _ => ?_
  rw [lidx_main_v0_at, ridx_main_v0_at]

theorem proj2_apply (x : X) (w : W) (b : Fin 2) (t : Fin 128) (h e : Fin 64) :
    val_main_v3 (F := Ideal) x w (ix4 b t h e) = wideRow x w b t (wideCol h e) := by
  rw [val_main_v3_apply, idx_main_v3_at, val_main_v2_apply]
  refine Finset.sum_congr rfl fun k _ => ?_
  rw [lidx_main_v2_at, ridx_main_v2_at]

theorem proj4_apply (x : X) (w : W) (b : Fin 2) (t : Fin 128) (h e : Fin 64) :
    val_main_v5 (F := Ideal) x w (ix4 b t h e) = wideRow x w b t (wideCol h e) := by
  rw [val_main_v5_apply, idx_main_v5_at, val_main_v4_apply]
  refine Finset.sum_congr rfl fun k _ => ?_
  rw [lidx_main_v4_at, ridx_main_v4_at]

variable (x : X) (wq wk wv : W)

/-- A scaled score. -/
def score (b : Fin 2) (h : Fin 64) (t j : Fin 128) : EReal :=
  (∑ e : Fin 64, wideRow x wq b t (wideCol h e) * wideRow x wk b j (wideCol h e)) * (((1 : ℝ) / 8 : ℝ) : EReal)

theorem v11_at (b : Fin 2) (h : Fin 64) (t j : Fin 128) :
    val_main_v11 (F := Ideal) x wq wk (ix4 b h t j) = score x wq wk b h t j := by
  rw [val_main_v11_apply, val_main_v9_apply, val_main_v10_apply, val_main_cst_2_apply]
  show _ * Ideal.ofBits .f32 0x3E000000#32 = _
  rw [ofBits_eighth_f32]
  refine congrArg (· * _) (Finset.sum_congr rfl fun e _ => ?_)
  rw [lidx_main_v9_at, ridx_main_v9_at, proj0_apply, proj2_apply]

theorem wideRow_real (hx : ∀ i, IsReal (x i)) (w : W) (hw : ∀ i, IsReal (w i)) (b : Fin 2) (t : Fin 128) (n : Fin 4096) :
    IsReal (wideRow x w b t n) := IsReal.sum _ _ fun k => (hx _).mul (hw _)

theorem score_real (hx : ∀ i, IsReal (x i)) (hq : ∀ i, IsReal (wq i)) (hk : ∀ i, IsReal (wk i)) (b : Fin 2) (h : Fin 64) (t j : Fin 128) :
    IsReal (score x wq wk b h t j) :=
  (IsReal.sum _ _ fun _ => (wideRow_real x hx wq hq _ _ _).mul (wideRow_real x hx wk hk _ _ _)).mul ⟨_, rfl⟩

/-- A row's maximum is a real where the row's scores are. -/
theorem v12_real (hs : ∀ b h t j, IsReal (score x wq wk b h t j)) (b : Fin 2) (h : Fin 64) (t : Fin 128) :
    IsReal (val_main_v12 (F := Ideal) x wq wk (ix3 b h t)) := by
  have hred : S2x64x128x128.Reduces [3] S2x64x128 := by decide
  unfold val_main_v12 val_main_cst_3
  refine (congrArg IsReal ((congrFun (hostReduce_maximumf_eq_multiReduction (F := Ideal) (φ := .f32) (val_main_v11 (F := Ideal) x wq wk) 0xFF800000#32
    reducesTo_S2x64x128x128_S2x64x128_d3 h_S_ hred (.inl rfl) rfl) (ix3 b h t)).trans
      (Ideal.multiReduction_maximumf_single _ _ hred (.inl rfl) rfl _))).mpr ?_
  show IsReal (Finset.fold max (Ideal.ofBits .f32 0xFF800000#32) _ _)
  rw [ofBits_bot_f32]
  refine IsReal.fold_max _ _ (fun j => ?_) ⟨(⟨0, by decide⟩ : Fin 128), Finset.mem_univ _⟩
  have hl : hred.lift (ix3 b h t) j = ix4 b h t j := by
    funext a
    match a with
    | ⟨0, _⟩ => rfl
    | ⟨1, _⟩ => rfl
    | ⟨2, _⟩ => rfl
    | ⟨3, _⟩ => rfl
  show IsReal (val_main_v11 (F := Ideal) x wq wk (hred.lift (ix3 b h t) j))
  rw [hl]
  exact (v11_at x wq wk b h t j).symm ▸ hs b h t j

theorem v14_real (hs : ∀ b h t j, IsReal (score x wq wk b h t j)) (b : Fin 2) (h : Fin 64) (t : Fin 128) :
    IsReal (val_main_v14 (F := Ideal) x wq wk (ix4 b h t (0 : Fin 1))) := by
  rw [val_main_v14_apply, val_main_v7_apply, val_main_cst_0_apply, val_main_v13_apply, idx_main_v13_at]
  show IsReal (max (Ideal.ofBits .f32 0xFF800000#32) _)
  rw [ofBits_bot_f32, max_eq_right bot_le]
  exact v12_real x wq wk hs b h t

/-! ## One head -/

theorem v16_at (b : Fin 2) (h : Fin 64) (t : Fin 128) :
    val_main_v16 (F := Ideal) x wq wk (ix4 b h t (0 : Fin 1)) = Ideal.exp (⊥ - val_main_v14 (F := Ideal) x wq wk (ix4 b h t (0 : Fin 1))) := by
  rw [val_main_v16_apply, val_main_v15_apply, val_main_v7_apply, val_main_cst_0_apply]
  exact congrArg (fun z : EReal => Ideal.exp (z - val_main_v14 (F := Ideal) x wq wk (ix4 b h t (0 : Fin 1)))) ofBits_bot_f32

theorem v19_at (b : Fin 2) (h : Fin 64) (t j : Fin 128) :
    val_main_v19 (F := Ideal) x wq wk (ix4 b h t j)
      = Ideal.exp (score x wq wk b h t j - val_main_v14 (F := Ideal) x wq wk (ix4 b h t (0 : Fin 1))) := by
  rw [val_main_v19_apply, val_main_v18_apply, v11_at, val_main_v17_apply, idx_main_v17_at]
  rfl

theorem v29_at (b : Fin 2) (t : Fin 128) (h d : Fin 64) :
    val_main_v29 (F := Ideal) x wq wk wv (ix4 b t h d)
      = 0 * Ideal.exp (⊥ - val_main_v14 (F := Ideal) x wq wk (ix4 b h t (0 : Fin 1)))
        + ∑ j : Fin 128, wideRow x wv b j (wideCol h d)
          * Ideal.exp (score x wq wk b h t j - val_main_v14 (F := Ideal) x wq wk (ix4 b h t (0 : Fin 1))) := by
  rw [val_main_v29_apply, val_main_v26_apply, val_main_v6_apply, val_main_cst_apply, val_main_v25_apply, idx_main_v25_at,
    val_main_v24_apply, idx_main_v24_at, v16_at, val_main_v28_apply, idx_main_v28_at, val_main_v27_apply]
  refine congrArg₂ (· + ·) (congrArg (· * _) Ideal.ofBits_zero_f32) (Finset.sum_congr rfl fun j _ => ?_)
  rw [lidx_main_v27_at, ridx_main_v27_at, proj4_apply, v19_at]

theorem v31_at (b : Fin 2) (t : Fin 128) (h d : Fin 64) :
    val_main_v31 (F := Ideal) x wq wk (ix4 b t h d)
      = 0 * Ideal.exp (⊥ - val_main_v14 (F := Ideal) x wq wk (ix4 b h t (0 : Fin 1)))
        + (0 + ∑ j : Fin 128, Ideal.exp (score x wq wk b h t j - val_main_v14 (F := Ideal) x wq wk (ix4 b h t (0 : Fin 1)))) := by
  rw [val_main_v31_apply, idx_main_v31_at, val_main_v30_apply, idx_main_v30_at, val_main_v23_apply, val_main_v20_apply,
    val_main_v8_apply, val_main_cst_1_apply, v16_at, val_main_v22_apply, idx_main_v22_at, val_main_v21_apply, val_main_cst_4_apply]
  refine congrArg₂ (· + ·) (congrArg (· * _) Ideal.ofBits_zero_f32) (congrArg₂ (· + ·) Ideal.ofBits_zero_f32 (Finset.sum_congr rfl fun j _ => ?_))
  rw [idx_main_v21_at, v19_at]

theorem v32_at (hs : ∀ b h t j, IsReal (score x wq wk b h t j)) (b : Fin 2) (t : Fin 128) (h d : Fin 64) :
    val_main_v32 (F := Ideal) x wq wk wv (ix4 b t h d)
      = headVal (fun t e => wideRow x wq b t (wideCol h e)) (fun t e => wideRow x wk b t (wideCol h e))
          (fun t e => wideRow x wv b t (wideCol h e)) t d := by
  rw [val_main_v32_apply, v29_at, v31_at]
  exact rowVal_running (by decide) _ _ (hs b h t) (v14_real x wq wk hs b h t)

/-! ## The result -/

variable (wo : (⟨S4096x512, .f32⟩ : BufTy).Contents (Elt Ideal))

theorem v34_at (b : Fin 2) (t : Fin 128) (n : Fin 512) :
    val_main_v34 (F := Ideal) x wq wk wv wo (ix3 b t n)
      = ∑ k : Fin 4096, val_main_v33 (F := Ideal) x wq wk wv (ix3 b t k) * wo (ix2 k n) := by
  rw [val_main_v34_apply]
  refine Finset.sum_congr rfl fun k _ => ?_
  rw [lidx_main_v34_at, ridx_main_v34_at]

theorem v33_at (b : Fin 2) (t : Fin 128) (h d : Fin 64) :
    val_main_v33 (F := Ideal) x wq wk wv (ix3 b t (wideCol h d)) = val_main_v32 (F := Ideal) x wq wk wv (ix4 b t h d) := by
  rw [val_main_v33_apply, idx_main_v33_at]

end Cert.Proof

end
-- ==== Proof.Equal.lean ====
/- The kernel's result is the reference's: a device's heads are the reference's heads at its columns of the weights,
   and the sum of the devices' partial products is the reference's one product over all columns. -/
module

public import proofs.«01_k».proof.Defs
public import proofs.«01_k».proof.Proof.Frames
public import proofs.«01_k».proof.Proof.KernelValue
public import proofs.«01_k».proof.Proof.ReferenceValue
public import proofs.«01_k».proof.Proof.Gen.Pre_finite_KernelIdeal
public import Idealize.ShloMosaic.Lib.ReduceAll
public import Idealize.ShloMosaic.Lib.Layout

@[expose] public section

noncomputable section

namespace Cert.Proof

open Idealize.ShloMosaic Idealize.ShloMosaic.TcCoe Idealize.ShloMosaic.ValueIdx
open Idealize.SL Idealize.SL.Sem
open scoped BigOperators

/-! ## Columns of the whole weights -/

/-- Column `k` of device `c`'s block, in the whole array. -/
def devCol (c : Fin 8) (k : Fin 512) : Fin 4096 := ⟨512 * c.val + k.val, by omega⟩
/-- Head `h` of device `c`, among all heads. -/
def devHead (c h : Fin 8) : Fin 64 := ⟨8 * c.val + h.val, by omega⟩

theorem devCol_headCol (c h : Fin 8) (e : Fin 64) : devCol c (headCol h e) = wideCol (devHead c h) e :=
  Fin.ext (by show 512 * c.val + (64 * h.val + e.val) = 64 * (8 * c.val + h.val) + e.val; omega)

theorem headCol_surj (k : Fin 512) : ∃ h e, k = headCol h e :=
  ⟨⟨k.val / 64, by omega⟩, ⟨k.val % 64, Nat.mod_lt _ (by decide)⟩, Fin.ext (by show k.val = 64 * (k.val / 64) + k.val % 64; omega)⟩

/-- A sum over all columns is the sum over the devices of the sums over their columns. -/
theorem sum_devices (f : Fin 4096 → EReal) : (∑ n : Fin 4096, f n) = ∑ c : Fin 8, ∑ k : Fin 512, f (devCol c k) := by
  rw [← Fintype.sum_prod_type' (fun (c : Fin 8) (k : Fin 512) => f (devCol c k))]
  refine (Equiv.sum_comp (finProdFinEquiv (m := 8) (n := 512)) f).symm.trans (Finset.sum_congr rfl fun p _ => congrArg f (Fin.ext ?_))
  show p.2.val + 512 * p.1.val = 512 * p.1.val + p.2.val
  omega

theorem block_cols (c : Fin 8) (w : W) (h) (i k : Fin 512) :
    (Layout.block ⟨2, ![512, 512]⟩ ⟨2, ![512, 4096]⟩ 1 8 c w h : _ → EReal) (ix2 i k) = w (ix2 i (devCol c k)) := by
  rw [Layout.block_apply]
  congr 1; funext a
  match a with
  | ⟨0, _⟩ => rfl
  | ⟨1, _⟩ => exact Fin.ext (by show c.val * 512 + k.val = 512 * c.val + k.val; omega)

theorem block_rows (c : Fin 8) (w : (⟨⟨2, ![4096, 512]⟩, .f32⟩ : BufTy).Contents (Elt Ideal)) (h) (k n : Fin 512) :
    (Layout.block ⟨2, ![512, 512]⟩ ⟨2, ![4096, 512]⟩ 0 8 c w h : _ → EReal) (ix2 k n) = w (ix2 (devCol c k) n) := by
  rw [Layout.block_apply]
  congr 1; funext a
  match a with
  | ⟨0, _⟩ => exact Fin.ext (by show c.val * 512 + k.val = 512 * c.val + k.val; omega)
  | ⟨1, _⟩ => rfl

/-! ## The two results -/

section Results

variable (B : Blocks Ideal) (x : X) (wq wk wv : W) (wo : (⟨⟨2, ![4096, 512]⟩, .f32⟩ : BufTy).Contents (Elt Ideal))

/-- Each device holds the whole input, its columns of the projections and its rows of the output weights. -/
structure Holds : Prop where
  x : ∀ c, B.x c = x
  wq : ∀ (c : Fin 8) (i k : Fin 512), B.wq c (ix2 i k) = wq (ix2 i (devCol c k))
  wk : ∀ (c : Fin 8) (i k : Fin 512), B.wk c (ix2 i k) = wk (ix2 i (devCol c k))
  wv : ∀ (c : Fin 8) (i k : Fin 512), B.wv c (ix2 i k) = wv (ix2 i (devCol c k))
  wo : ∀ (c : Fin 8) (k n : Fin 512), B.wo c (ix2 k n) = wo (ix2 (devCol c k) n)

variable {B x wq wk wv wo}

theorem dotRow_wide (c : Fin 8) (u : Vec Ideal ⟨3, ![2, 128, 512]⟩ .f32) (hu : u = x) (w : Vec Ideal ⟨2, ![512, 512]⟩ .f32) (w' : W)
    (hw : ∀ i k : Fin 512, w (ix2 i k) = w' (ix2 i (devCol c k))) (b : Fin 2) (t : Fin 128) (k : Fin 512) :
    dotRow (batchOf u b) w t k = wideRow x w' b t (devCol c k) := by
  subst hu
  unfold dotRow wideRow
  refine Finset.sum_congr rfl fun i _ => ?_
  rw [hw]
  refine congrArg (· * _) ?_
  unfold batchOf
  congr 1; funext a
  match a with
  | ⟨0, _⟩ => rfl
  | ⟨1, _⟩ => rfl
  | ⟨2, _⟩ => rfl

theorem attn_wide (H : Holds B x wq wk wv wo) (hs : ∀ b h t j, IsReal (score x wq wk b h t j)) (c : Fin 8) (b : Fin 2) (t : Fin 128) (k : Fin 512) :
    B.attn c b (ix2 t k) = Cert.ReferenceIdeal.Read.val_main_v33 (F := Ideal) x wq wk wv (ix3 b t (devCol c k)) := by
  obtain ⟨h, e, rfl⟩ := headCol_surj k
  unfold Blocks.attn
  rw [attnOf_apply, devCol_headCol, v33_at, v32_at x wq wk wv hs]
  simp only [dotRow_wide c _ (H.x c) _ wq (H.wq c), dotRow_wide c _ (H.x c) _ wk (H.wk c), dotRow_wide c _ (H.x c) _ wv (H.wv c), devCol_headCol]

/-- **The results are equal.** -/
theorem out_eq (H : Holds B x wq wk wv wo) (hs : ∀ b h t j, IsReal (score x wq wk b h t j)) (c : Fin 8) :
    B.out c = Cert.ReferenceIdeal.Read.val_main_v34 (F := Ideal) x wq wk wv wo := by
  funext i
  obtain ⟨b, t, n, rfl⟩ : ∃ (b : Fin 2) (t : Fin 128) (n : Fin 512), i = ix3 b t n := ⟨_, _, _, eq_ix3 i⟩
  rw [out_apply, v34_at, sum_devices]
  refine Finset.sum_congr rfl fun d _ => Finset.sum_congr rfl fun k _ => ?_
  rw [attn_wide H hs, H.wo]

end Results

/-! ## What the precondition gives -/

theorem real_of_compare {s : Shape} (a z : FVec Ideal s .f32) (i : s.Idx) (hz : z i = Ideal.ofBits .f32 0x7F800000#32)
    (h : cmpf .olt (Host.absf a) z i = 1#1) : IsReal (a i) := by
  refine IsReal.of_abs_lt ?_
  have h' : Ideal.cmp .olt (max (a i) (-(a i))) (z i) = 1#1 := h
  rw [hz, ofBits_top_f32] at h'
  by_contra hn
  have : Ideal.cmp .olt (max (a i) (-(a i))) ⊤ = BitVec.ofBool (decide (max (a i) (-(a i)) < ⊤)) := rfl
  rw [this, decide_eq_false hn] at h'
  exact absurd h' (by decide)

theorem and_one (p q : BitVec 1) (h : IntOp.andi p q = 1#1) : p = 1#1 ∧ q = 1#1 := by revert p q; decide

instance : Subsingleton Cert.Pre_finite_KernelIdeal.S_.Idx := ⟨fun _ _ => funext fun a => a.elim0⟩

open Cert.Pre_finite_KernelIdeal Cert.Pre_finite_KernelIdeal.Gen in
/-- Under the precondition a device's input and its query and key weights are reals. -/
theorem real_of_pre (x : FVec Ideal S2x128x512 .f32) (wq wk wv wo : FVec Ideal S512x512 .f32)
    (h : Cert.Pre_finite_KernelIdeal.fn (F := Ideal) x wq wk wv wo = fun _ => 1#1) :
    (∀ i, IsReal (x i)) ∧ (∀ i, IsReal (wq i)) ∧ ∀ i, IsReal (wk i) := by
  have h0 := congrFun h (fun a => a.elim0)
  unfold Cert.Pre_finite_KernelIdeal.fn at h0
  obtain ⟨h1, hk⟩ := and_one _ _ h0
  obtain ⟨hx, hq⟩ := and_one _ _ h1
  exact ⟨fun i => real_of_compare x _ i rfl (Host.reduce_andi_all _ _ _ _ _ hx i),
    fun i => real_of_compare wq _ i rfl (Host.reduce_andi_all _ _ _ _ _ hq i),
    fun i => real_of_compare wk _ i rfl (Host.reduce_andi_all _ _ _ _ _ hk i)⟩

/-! ## The claim -/

theorem dev_surj (n : Fin 4096) : ∃ c k, n = devCol c k :=
  ⟨⟨n.val / 512, by omega⟩, ⟨n.val % 512, Nat.mod_lt _ (by decide)⟩, Fin.ext (by show n.val = 512 * (n.val / 512) + n.val % 512; omega)⟩

theorem real_of_blocks (w : W) (u : Fin 8 → FVec Ideal ⟨2, ![512, 512]⟩ .f32) (hu : ∀ c i, IsReal (u c i))
    (hw : ∀ (c : Fin 8) (i k : Fin 512), u c (ix2 i k) = w (ix2 i (devCol c k))) (i) : IsReal (w i) := by
  obtain ⟨a, n, rfl⟩ : ∃ (a : Fin 512) (n : Fin 4096), i = ix2 a n := ⟨_, _, eq_ix2 i⟩
  obtain ⟨c, k, rfl⟩ := dev_surj n
  exact hw c a k ▸ hu c _

theorem value : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hargs
  have hreal := fun c => real_of_pre _ _ _ _ _ (hpre c)
  have H : Holds (blocks m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    constructor
    · intro c; exact (read_x _).trans (hargs c).1
    · intro c i k; exact (congrFun ((read_wq _).trans (hargs c).2.1) _).trans (block_cols c _ _ i k)
    · intro c i k; exact (congrFun ((read_wk _).trans (hargs c).2.2.1) _).trans (block_cols c _ _ i k)
    · intro c i k; exact (congrFun ((read_wv _).trans (hargs c).2.2.2.1) _).trans (block_cols c _ _ i k)
    · intro c k n; exact (congrFun ((read_wo _).trans (hargs c).2.2.2.2) _).trans (block_rows c _ _ k n)
  have hx : ∀ i, IsReal ((m' (((0 : Dev Cert.ReferenceIdeal.nD).tc : Thread Cert.ReferenceIdeal.nD Cert.ReferenceIdeal.τ).loc Cert.ReferenceIdeal.main_arg0)) i) := fun i => by
    have := (hreal 0).1 i
    rw [(hargs 0).1] at this
    exact this
  have hq := real_of_blocks (m' (((0 : Dev Cert.ReferenceIdeal.nD).tc : Thread Cert.ReferenceIdeal.nD Cert.ReferenceIdeal.τ).loc Cert.ReferenceIdeal.main_arg1))
    (fun c : Dev Cert.KernelIdeal.nD => m ((c.tc : Thread Cert.KernelIdeal.nD Cert.KernelIdeal.τ).loc Cert.KernelIdeal.main_arg1)) (fun c => (hreal c).2.1)
    (fun c i k => (congrFun (hargs c).2.1 _).trans (block_cols c _ _ i k))
  have hk := real_of_blocks (m' (((0 : Dev Cert.ReferenceIdeal.nD).tc : Thread Cert.ReferenceIdeal.nD Cert.ReferenceIdeal.τ).loc Cert.ReferenceIdeal.main_arg2))
    (fun c : Dev Cert.KernelIdeal.nD => m ((c.tc : Thread Cert.KernelIdeal.nD Cert.KernelIdeal.τ).loc Cert.KernelIdeal.main_arg2)) (fun c => (hreal c).2.2)
    (fun c i k => (congrFun (hargs c).2.2.1 _).trans (block_cols c _ _ i k))
  have hout := fun c => out_eq H (score_real _ _ _ hx hq hk) c
  refine ⟨_, (θ_run _ _ _).mono (fun r h c => ⟨(h.1 c).1.trans (hout c), (h.1 c).2⟩) (run_arrays m g),
    (θ_run _ _ _).mono (fun r h => ⟨(h 0).1.trans (Cert.ReferenceIdeal.Read.val_main_v34_eq m' 0), (h 0).2⟩)
      (Cert.ReferenceIdeal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.Gen.ReferenceIdeal.Read
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  frame_kernel, frame_ideal, fun m ρ _ => frame_ideal m ρ trivial, frame_reference, fun m ρ _ => frame_reference m ρ trivial, trivial, value⟩

end Cert.Proof

end
